-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_int8_zero_points [hPre_int8_zero_points : Cert.Pre_int8_zero_points.Facts] (m : (ℓ : Loc Cert.KernelIdeal.nD Cert.KernelIdeal.τ Cert.KernelIdeal.sig) → Buf (Elt Ideal) ℓ) : Prop :=
  ∀ c : Dev Cert.KernelIdeal.nD,
    (Cert.Pre_int8_zero_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_int8_zero_points [hPre_int8_zero_points : Cert.Pre_int8_zero_points.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_int8_zero_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_int8_zero_points [hKernelIdeal : Cert.KernelIdeal.Facts] [hPre_int8_zero_points : Cert.Pre_int8_zero_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_int8_zero_points m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_int8_zero_points [hReferenceIdeal : Cert.ReferenceIdeal.Facts] [hPre_int8_zero_points : Cert.Pre_int8_zero_points.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_int8_zero_points m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_int8_zero_points [hKernelIdeal : Cert.KernelIdeal.Facts] [hReferenceIdeal : Cert.ReferenceIdeal.Facts] [hPre_int8_zero_points : Cert.Pre_int8_zero_points.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_int8_zero_points m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v904) = v0 c
          ∧ r.2.mem ((c.tc : Thread Cert.ReferenceIdeal.nD Cert.ReferenceIdeal.τ).loc Cert.ReferenceIdeal.main_v905) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_int8_zero_points : Cert.Pre_int8_zero_points.Facts),
    quiescent_Kernel (hKernel := hKernel)
    ∧ quiescent_KernelIdeal (hKernelIdeal := hKernelIdeal)
    ∧ quiescent_KernelIdeal_pre_int8_zero_points (hKernelIdeal := hKernelIdeal) (hPre_int8_zero_points := hPre_int8_zero_points)
    ∧ quiescent_ReferenceIdeal (hReferenceIdeal := hReferenceIdeal)
    ∧ quiescent_ReferenceIdeal_pre_int8_zero_points (hReferenceIdeal := hReferenceIdeal) (hPre_int8_zero_points := hPre_int8_zero_points)
    ∧ preserves_Kernel_KernelIdeal
    ∧ algebraic_KernelIdeal_ReferenceIdeal_pre_int8_zero_points (hKernelIdeal := hKernelIdeal) (hReferenceIdeal := hReferenceIdeal) (hPre_int8_zero_points := hPre_int8_zero_points)
-- ==== Pre_int8_zero_points.lean ====
abbrev S193x12x16x96 : Shape := ⟨4, ![193, 12, 16, 96]⟩
abbrev S_ : Shape := ⟨0, ![]⟩
abbrev S96x576 : Shape := ⟨2, ![96, 576]⟩
abbrev S576 : Shape := ⟨1, ![576]⟩
abbrev S5x5x576 : Shape := ⟨3, ![5, 5, 576]⟩
abbrev S576x96 : Shape := ⟨2, ![576, 96]⟩
abbrev S96 : Shape := ⟨1, ![96]⟩
abbrev S6 : Shape := ⟨1, ![6]⟩

class Facts : Prop where

variable [Facts]

def fn {F : FTy → Type} [FloatOps F] (main_arg0 : IVec S193x12x16x96 8) (main_arg1 : IVec S_ 32) (main_arg2 : IVec S96x576 8) (main_arg3 : IVec S576 32) (main_arg4 : IVec S576 32) (main_arg5 : IVec S576 32) (main_arg6 : IVec S_ 32) (main_arg7 : IVec S5x5x576 8) (main_arg8 : IVec S576 32) (main_arg9 : IVec S576 32) (main_arg10 : IVec S576 32) (main_arg11 : IVec S_ 32) (main_arg12 : IVec S576x96 8) (main_arg13 : IVec S96 32) (main_arg14 : IVec S96 32) (main_arg15 : IVec S96 32) (main_arg16 : IVec S_ 32) (main_arg17 : IVec S6 32) (main_arg18 : IVec S_ 32) : IVec S_ 1 :=
  let main_c : IVec S_ 32 := constantI S_ 32 4294967168#32
  let main_v0 : IVec S_ 1 := cmpi .sge main_arg6 main_c
  let main_c_0 : IVec S_ 32 := constantI S_ 32 127#32
  let main_v1 : IVec S_ 1 := cmpi .sle main_arg6 main_c_0
  let main_v2 : IVec S_ 1 := andi main_v0 main_v1
  let main_c_1 : IVec S_ 32 := constantI S_ 32 4294967168#32
  let main_v3 : IVec S_ 1 := cmpi .sge main_arg11 main_c_1
  let main_v4 : IVec S_ 1 := andi main_v2 main_v3
  let main_c_2 : IVec S_ 32 := constantI S_ 32 127#32
  let main_v5 : IVec S_ 1 := cmpi .sle main_arg11 main_c_2
  let main_v6 : IVec S_ 1 := andi main_v4 main_v5
  main_v6
-- ==== Kernel.lean ====
abbrev S193x12x16x96 : Shape := ⟨4, ![193, 12, 16, 96]⟩
abbrev S_ : Shape := ⟨0, ![]⟩
abbrev S96x576 : Shape := ⟨2, ![96, 576]⟩
abbrev S576 : Shape := ⟨1, ![576]⟩
abbrev S5x5x576 : Shape := ⟨3, ![5, 5, 576]⟩
abbrev S576x96 : Shape := ⟨2, ![576, 96]⟩
abbrev S96 : Shape := ⟨1, ![96]⟩
abbrev S6 : Shape := ⟨1, ![6]⟩
abbrev S1 : Shape := ⟨1, ![1]⟩
abbrev S5 : Shape := ⟨1, ![5]⟩
abbrev S11 : Shape := ⟨1, ![11]⟩
abbrev S193x192x96 : Shape := ⟨3, ![193, 192, 96]⟩
abbrev S1x576 : Shape := ⟨2, ![1, 576]⟩
abbrev S3x576 : Shape := ⟨2, ![3, 576]⟩
abbrev S25x576 : Shape := ⟨2, ![25, 576]⟩
abbrev S1x96 : Shape := ⟨2, ![1, 96]⟩
abbrev S3x96 : Shape := ⟨2, ![3, 96]⟩
abbrev S193x192x576 : Shape := ⟨3, ![193, 192, 576]⟩
abbrev S1x192x96 : Shape := ⟨3, ![1, 192, 96]⟩
abbrev S1x192x576 : Shape := ⟨3, ![1, 192, 576]⟩
abbrev S16x32x576 : Shape := ⟨3, ![16, 32, 576]⟩
abbrev S192x96 : Shape := ⟨2, ![192, 96]⟩
abbrev S192x576 : Shape := ⟨2, ![192, 576]⟩
abbrev S12x16x576 : Shape := ⟨3, ![12, 16, 576]⟩
abbrev S1x1x576 : Shape := ⟨3, ![1, 1, 576]⟩

abbrev nBuf : Space → Nat
  | .hbm => 42
  | .vmem => 13
  | .smem => 1
  | _ => 0

abbrev bufTy : (tb : Table) → Fin (tcTables nBuf tb) → BufTy
  | .hbm, ⟨0, _⟩ => ⟨S193x12x16x96, .i8⟩
  | .hbm, ⟨1, _⟩ => ⟨S_, .i32⟩
  | .hbm, ⟨2, _⟩ => ⟨S96x576, .i8⟩
  | .hbm, ⟨3, _⟩ => ⟨S576, .i32⟩
  | .hbm, ⟨4, _⟩ => ⟨S576, .i32⟩
  | .hbm, ⟨5, _⟩ => ⟨S576, .i32⟩
  | .hbm, ⟨6, _⟩ => ⟨S_, .i32⟩
  | .hbm, ⟨7, _⟩ => ⟨S5x5x576, .i8⟩
  | .hbm, ⟨8, _⟩ => ⟨S576, .i32⟩
  | .hbm, ⟨9, _⟩ => ⟨S576, .i32⟩
  | .hbm, ⟨10, _⟩ => ⟨S576, .i32⟩
  | .hbm, ⟨11, _⟩ => ⟨S_, .i32⟩
  | .hbm, ⟨12, _⟩ => ⟨S576x96, .i8⟩
  | .hbm, ⟨13, _⟩ => ⟨S96, .i32⟩
  | .hbm, ⟨14, _⟩ => ⟨S96, .i32⟩
  | .hbm, ⟨15, _⟩ => ⟨S96, .i32⟩
  | .hbm, ⟨16, _⟩ => ⟨S_, .i32⟩
  | .hbm, ⟨17, _⟩ => ⟨S6, .i32⟩
  | .hbm, ⟨18, _⟩ => ⟨S_, .i32⟩
  | .hbm, ⟨19, _⟩ => ⟨S1, .i32⟩
  | .hbm, ⟨20, _⟩ => ⟨S1, .i32⟩
  | .hbm, ⟨21, _⟩ => ⟨S1, .i32⟩
  | .hbm, ⟨22, _⟩ => ⟨S1, .i32⟩
  | .hbm, ⟨23, _⟩ => ⟨S1, .i32⟩
  | .hbm, ⟨24, _⟩ => ⟨S5, .i32⟩
  | .hbm, ⟨25, _⟩ => ⟨S11, .i32⟩
  | .hbm, ⟨26, _⟩ => ⟨S193x192x96, .i8⟩
  | .hbm, ⟨27, _⟩ => ⟨S1x576, .i32⟩
  | .hbm, ⟨28, _⟩ => ⟨S1x576, .i32⟩
  | .hbm, ⟨29, _⟩ => ⟨S1x576, .i32⟩
  | .hbm, ⟨30, _⟩ => ⟨S3x576, .i32⟩
  | .hbm, ⟨31, _⟩ => ⟨S25x576, .i8⟩
  | .hbm, ⟨32, _⟩ => ⟨S1x576, .i32⟩
  | .hbm, ⟨33, _⟩ => ⟨S1x576, .i32⟩
  | .hbm, ⟨34, _⟩ => ⟨S1x576, .i32⟩
  | .hbm, ⟨35, _⟩ => ⟨S3x576, .i32⟩
  | .hbm, ⟨36, _⟩ => ⟨S1x96, .i32⟩
  | .hbm, ⟨37, _⟩ => ⟨S1x96, .i32⟩
  | .hbm, ⟨38, _⟩ => ⟨S1x96, .i32⟩
  | .hbm, ⟨39, _⟩ => ⟨S3x96, .i32⟩
  | .hbm, ⟨40, _⟩ => ⟨S193x192x96, .i8⟩
  | .hbm, ⟨41, _⟩ => ⟨S193x192x576, .i8⟩
  | .local _ .vmem, ⟨0, _⟩ => ⟨S1x192x96, .i8⟩
  | .local _ .vmem, ⟨1, _⟩ => ⟨S1x192x96, .i8⟩
  | .local _ .vmem, ⟨2, _⟩ => ⟨S96x576, .i8⟩
  | .local _ .vmem, ⟨3, _⟩ => ⟨S3x576, .i32⟩
  | .local _ .vmem, ⟨4, _⟩ => ⟨S25x576, .i8⟩
  | .local _ .vmem, ⟨5, _⟩ => ⟨S3x576, .i32⟩
  | .local _ .vmem, ⟨6, _⟩ => ⟨S576x96, .i8⟩
  | .local _ .vmem, ⟨7, _⟩ => ⟨S3x96, .i32⟩
  | .local _ .vmem, ⟨8, _⟩ => ⟨S1x192x96, .i8⟩
  | .local _ .vmem, ⟨9, _⟩ => ⟨S1x192x96, .i8⟩
  | .local _ .vmem, ⟨10, _⟩ => ⟨S1x192x576, .i8⟩
  | .local _ .vmem, ⟨11, _⟩ => ⟨S1x192x576, .i8⟩
  | .local _ .vmem, ⟨12, _⟩ => ⟨S16x32x576, .f32⟩
  | .local _ .smem, ⟨0, _⟩ => ⟨S11, .i32⟩
  | _, _ => ⟨S193x12x16x96, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21_0 : Ref sig .tc := ⟨.hbm, 40, rfl⟩
abbrev main_v21_1 : Ref sig .tc := ⟨.hbm, 41, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![193], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S11 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x192x96 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x576 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x576 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S25x576 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x576 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S576x96 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x96 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x192x96 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x192x576 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S193x12x16x96 : Shape := ⟨4, ![193, 12, 16, 96]⟩
abbrev S_ : Shape := ⟨0, ![]⟩
abbrev S96x576 : Shape := ⟨2, ![96, 576]⟩
abbrev S576 : Shape := ⟨1, ![576]⟩
abbrev S5x5x576 : Shape := ⟨3, ![5, 5, 576]⟩
abbrev S576x96 : Shape := ⟨2, ![576, 96]⟩
abbrev S96 : Shape := ⟨1, ![96]⟩
abbrev S6 : Shape := ⟨1, ![6]⟩
abbrev S193x12x16x96x1 : Shape := ⟨5, ![193, 12, 16, 96, 1]⟩
abbrev S1x1x1x96x576 : Shape := ⟨5, ![1, 1, 1, 96, 576]⟩
abbrev S193x12x16x96x576 : Shape := ⟨5, ![193, 12, 16, 96, 576]⟩
abbrev S193x12x16x576 : Shape := ⟨4, ![193, 12, 16, 576]⟩
abbrev S1x1x1x576 : Shape := ⟨4, ![1, 1, 1, 576]⟩
abbrev S193x16x20x576 : Shape := ⟨4, ![193, 16, 20, 576]⟩
abbrev S1x1x576 : Shape := ⟨3, ![1, 1, 576]⟩
abbrev S193x12x16x576x1 : Shape := ⟨5, ![193, 12, 16, 576, 1]⟩
abbrev S1x1x1x576x96 : Shape := ⟨5, ![1, 1, 1, 576, 96]⟩
abbrev S193x12x16x576x96 : Shape := ⟨5, ![193, 12, 16, 576, 96]⟩
abbrev S1x1x1x96 : Shape := ⟨4, ![1, 1, 1, 96]⟩
abbrev S1 : Shape := ⟨1, ![1]⟩
abbrev S193x192x96 : Shape := ⟨3, ![193, 192, 96]⟩
abbrev S193x192x576 : Shape := ⟨3, ![193, 192, 576]⟩

abbrev nBuf : Space → Nat
  | .hbm => 1327
  | .vmem => 0
  | .smem => 0
  | _ => 0

abbrev hbmTy0_0 (i : Nat) : BufTy := match i % 128 with
  | 0 => ⟨S193x12x16x96, .i8⟩
  | 1 => ⟨S_, .i32⟩
  | 2 => ⟨S96x576, .i8⟩
  | 3 => ⟨S576, .i32⟩
  | 4 => ⟨S576, .i32⟩
  | 5 => ⟨S576, .i32⟩
  | 6 => ⟨S_, .i32⟩
  | 7 => ⟨S5x5x576, .i8⟩
  | 8 => ⟨S576, .i32⟩
  | 9 => ⟨S576, .i32⟩
  | 10 => ⟨S576, .i32⟩
  | 11 => ⟨S_, .i32⟩
  | 12 => ⟨S576x96, .i8⟩
  | 13 => ⟨S96, .i32⟩
  | 14 => ⟨S96, .i32⟩
  | 15 => ⟨S96, .i32⟩
  | 16 => ⟨S_, .i32⟩
  | 17 => ⟨S6, .i32⟩
  | 18 => ⟨S_, .i32⟩
  | 19 => ⟨S193x12x16x96, .i32⟩
  | 20 => ⟨S193x12x16x96x1, .i32⟩
  | 21 => ⟨S96x576, .i32⟩
  | 22 => ⟨S1x1x1x96x576, .i32⟩
  | 23 => ⟨S193x12x16x96x576, .i32⟩
  | 24 => ⟨S193x12x16x96x576, .i32⟩
  | 25 => ⟨S193x12x16x96x576, .i32⟩
  | 26 => ⟨S_, .i32⟩
  | 27 => ⟨S193x12x16x576, .i32⟩
  | 28 => ⟨S96x576, .i32⟩
  | 29 => ⟨S_, .i32⟩
  | 30 => ⟨S576, .i32⟩
  | 31 => ⟨S576, .i32⟩
  | 32 => ⟨S576, .i32⟩
  | 33 => ⟨S1x1x1x576, .i32⟩
  | 34 => ⟨S193x12x16x576, .i32⟩
  | 35 => ⟨S193x12x16x576, .i32⟩
  | 36 => ⟨S1x1x1x576, .i32⟩
  | 37 => ⟨S193x12x16x576, .i32⟩
  | 38 => ⟨S193x12x16x576, .i32⟩
  | 39 => ⟨S_, .i32⟩
  | 40 => ⟨S193x12x16x576, .i32⟩
  | 41 => ⟨S193x12x16x576, .i1⟩
  | 42 => ⟨S193x12x16x576, .i32⟩
  | 43 => ⟨S193x12x16x576, .i32⟩
  | 44 => ⟨S193x12x16x576, .i32⟩
  | 45 => ⟨S576, .i32⟩
  | 46 => ⟨S_, .i32⟩
  | 47 => ⟨S193x12x16x576, .i32⟩
  | 48 => ⟨S193x12x16x576, .i32⟩
  | 49 => ⟨S_, .i32⟩
  | 50 => ⟨S193x12x16x576, .i32⟩
  | 51 => ⟨S193x12x16x576, .i32⟩
  | 52 => ⟨S_, .i32⟩
  | 53 => ⟨S576, .i32⟩
  | 54 => ⟨S576, .i32⟩
  | 55 => ⟨S_, .i32⟩
  | 56 => ⟨S576, .i32⟩
  | 57 => ⟨S576, .i32⟩
  | 58 => ⟨S1x1x1x576, .i32⟩
  | 59 => ⟨S193x12x16x576, .i32⟩
  | 60 => ⟨S193x12x16x576, .i32⟩
  | 61 => ⟨S1x1x1x576, .i32⟩
  | 62 => ⟨S193x12x16x576, .i32⟩
  | 63 => ⟨S193x12x16x576, .i32⟩
  | 64 => ⟨S1x1x1x576, .i32⟩
  | 65 => ⟨S193x12x16x576, .i32⟩
  | 66 => ⟨S193x12x16x576, .i32⟩
  | 67 => ⟨S1x1x1x576, .i32⟩
  | 68 => ⟨S193x12x16x576, .i32⟩
  | 69 => ⟨S193x12x16x576, .i32⟩
  | 70 => ⟨S_, .i32⟩
  | 71 => ⟨S193x12x16x576, .i32⟩
  | 72 => ⟨S193x12x16x576, .i32⟩
  | 73 => ⟨S_, .i32⟩
  | 74 => ⟨S193x12x16x576, .i32⟩
  | 75 => ⟨S193x12x16x576, .i32⟩
  | 76 => ⟨S193x12x16x576, .i32⟩
  | 77 => ⟨S_, .i32⟩
  | 78 => ⟨S193x12x16x576, .i32⟩
  | 79 => ⟨S193x12x16x576, .i32⟩
  | 80 => ⟨S193x12x16x576, .i32⟩
  | 81 => ⟨S_, .i32⟩
  | 82 => ⟨S193x12x16x576, .i32⟩
  | 83 => ⟨S193x12x16x576, .i32⟩
  | 84 => ⟨S_, .i32⟩
  | 85 => ⟨S193x12x16x576, .i32⟩
  | 86 => ⟨S193x12x16x576, .i32⟩
  | 87 => ⟨S193x12x16x576, .i32⟩
  | 88 => ⟨S_, .i32⟩
  | 89 => ⟨S193x12x16x576, .i32⟩
  | 90 => ⟨S193x12x16x576, .i32⟩
  | 91 => ⟨S193x12x16x576, .i32⟩
  | 92 => ⟨S_, .i32⟩
  | 93 => ⟨S193x12x16x576, .i32⟩
  | 94 => ⟨S193x12x16x576, .i32⟩
  | 95 => ⟨S193x12x16x576, .i32⟩
  | 96 => ⟨S_, .i32⟩
  | 97 => ⟨S193x12x16x576, .i32⟩
  | 98 => ⟨S193x12x16x576, .i32⟩
  | 99 => ⟨S_, .i32⟩
  | 100 => ⟨S193x12x16x576, .i32⟩
  | 101 => ⟨S193x12x16x576, .i32⟩
  | 102 => ⟨S193x12x16x576, .i32⟩
  | 103 => ⟨S_, .i32⟩
  | 104 => ⟨S193x12x16x576, .i32⟩
  | 105 => ⟨S193x12x16x576, .i32⟩
  | 106 => ⟨S_, .i32⟩
  | 107 => ⟨S193x12x16x576, .i32⟩
  | 108 => ⟨S193x12x16x576, .i32⟩
  | 109 => ⟨S_, .i32⟩
  | 110 => ⟨S193x12x16x576, .i32⟩
  | 111 => ⟨S193x12x16x576, .i32⟩
  | 112 => ⟨S193x12x16x576, .i32⟩
  | 113 => ⟨S_, .i32⟩
  | 114 => ⟨S193x12x16x576, .i32⟩
  | 115 => ⟨S193x12x16x576, .i32⟩
  | 116 => ⟨S_, .i32⟩
  | 117 => ⟨S193x12x16x576, .i32⟩
  | 118 => ⟨S193x12x16x576, .i32⟩
  | 119 => ⟨S193x12x16x576, .i32⟩
  | 120 => ⟨S_, .i32⟩
  | 121 => ⟨S576, .i32⟩
  | 122 => ⟨S576, .i1⟩
  | 123 => ⟨S_, .i32⟩
  | 124 => ⟨S193x12x16x576, .i32⟩
  | 125 => ⟨S193x12x16x576, .i32⟩
  | 126 => ⟨S_, .i32⟩
  | 127 => ⟨S576, .i32⟩
  | _ => ⟨S193x12x16x96, .i8⟩

abbrev hbmTy0_1 (i : Nat) : BufTy := match i % 128 with
  | 0 => ⟨S576, .i32⟩
  | 1 => ⟨S_, .i32⟩
  | 2 => ⟨S_, .i32⟩
  | 3 => ⟨S_, .i32⟩
  | 4 => ⟨S576, .i32⟩
  | 5 => ⟨S576, .i32⟩
  | 6 => ⟨S_, .i32⟩
  | 7 => ⟨S576, .i32⟩
  | 8 => ⟨S576, .i32⟩
  | 9 => ⟨S576, .i32⟩
  | 10 => ⟨S_, .i32⟩
  | 11 => ⟨S576, .i32⟩
  | 12 => ⟨S576, .i32⟩
  | 13 => ⟨S1x1x1x576, .i32⟩
  | 14 => ⟨S193x12x16x576, .i32⟩
  | 15 => ⟨S193x12x16x576, .i32⟩
  | 16 => ⟨S193x12x16x576, .i1⟩
  | 17 => ⟨S193x12x16x576, .i32⟩
  | 18 => ⟨S_, .i32⟩
  | 19 => ⟨S576, .i32⟩
  | 20 => ⟨S576, .i32⟩
  | 21 => ⟨S_, .i32⟩
  | 22 => ⟨S_, .i32⟩
  | 23 => ⟨S_, .i32⟩
  | 24 => ⟨S576, .i32⟩
  | 25 => ⟨S576, .i32⟩
  | 26 => ⟨S_, .i32⟩
  | 27 => ⟨S576, .i32⟩
  | 28 => ⟨S576, .i32⟩
  | 29 => ⟨S576, .i32⟩
  | 30 => ⟨S_, .i32⟩
  | 31 => ⟨S576, .i32⟩
  | 32 => ⟨S576, .i32⟩
  | 33 => ⟨S1x1x1x576, .i32⟩
  | 34 => ⟨S193x12x16x576, .i32⟩
  | 35 => ⟨S193x12x16x576, .i32⟩
  | 36 => ⟨S_, .i32⟩
  | 37 => ⟨S193x12x16x576, .i1⟩
  | 38 => ⟨S193x12x16x576, .i32⟩
  | 39 => ⟨S193x12x16x576, .i32⟩
  | 40 => ⟨S193x12x16x576, .i32⟩
  | 41 => ⟨S193x12x16x576, .i32⟩
  | 42 => ⟨S193x12x16x576, .i1⟩
  | 43 => ⟨S193x12x16x576, .i32⟩
  | 44 => ⟨S193x12x16x576, .i32⟩
  | 45 => ⟨S_, .i32⟩
  | 46 => ⟨S_, .i32⟩
  | 47 => ⟨S_, .i32⟩
  | 48 => ⟨S576, .i32⟩
  | 49 => ⟨S576, .i32⟩
  | 50 => ⟨S_, .i32⟩
  | 51 => ⟨S576, .i32⟩
  | 52 => ⟨S576, .i32⟩
  | 53 => ⟨S576, .i32⟩
  | 54 => ⟨S1x1x1x576, .i32⟩
  | 55 => ⟨S193x12x16x576, .i32⟩
  | 56 => ⟨S193x12x16x576, .i32⟩
  | 57 => ⟨S_, .i32⟩
  | 58 => ⟨S576, .i32⟩
  | 59 => ⟨S576, .i32⟩
  | 60 => ⟨S_, .i32⟩
  | 61 => ⟨S_, .i32⟩
  | 62 => ⟨S_, .i32⟩
  | 63 => ⟨S576, .i32⟩
  | 64 => ⟨S576, .i32⟩
  | 65 => ⟨S_, .i32⟩
  | 66 => ⟨S576, .i32⟩
  | 67 => ⟨S576, .i32⟩
  | 68 => ⟨S576, .i32⟩
  | 69 => ⟨S1x1x1x576, .i32⟩
  | 70 => ⟨S193x12x16x576, .i32⟩
  | 71 => ⟨S193x12x16x576, .i32⟩
  | 72 => ⟨S193x12x16x576, .i32⟩
  | 73 => ⟨S_, .i32⟩
  | 74 => ⟨S576, .i32⟩
  | 75 => ⟨S576, .i32⟩
  | 76 => ⟨S_, .i32⟩
  | 77 => ⟨S_, .i32⟩
  | 78 => ⟨S_, .i32⟩
  | 79 => ⟨S576, .i32⟩
  | 80 => ⟨S576, .i32⟩
  | 81 => ⟨S_, .i32⟩
  | 82 => ⟨S576, .i32⟩
  | 83 => ⟨S576, .i32⟩
  | 84 => ⟨S576, .i32⟩
  | 85 => ⟨S1x1x1x576, .i32⟩
  | 86 => ⟨S193x12x16x576, .i32⟩
  | 87 => ⟨S193x12x16x576, .i32⟩
  | 88 => ⟨S_, .i32⟩
  | 89 => ⟨S576, .i32⟩
  | 90 => ⟨S576, .i1⟩
  | 91 => ⟨S193x12x16x576, .i1⟩
  | 92 => ⟨S193x12x16x576, .i32⟩
  | 93 => ⟨S193x12x16x576, .i32⟩
  | 94 => ⟨S193x12x16x576, .i32⟩
  | 95 => ⟨S193x12x16x576, .i32⟩
  | 96 => ⟨S193x12x16x576, .i32⟩
  | 97 => ⟨S193x12x16x576, .i32⟩
  | 98 => ⟨S_, .i32⟩
  | 99 => ⟨S193x12x16x576, .i32⟩
  | 100 => ⟨S193x12x16x576, .i32⟩
  | 101 => ⟨S_, .i32⟩
  | 102 => ⟨S193x12x16x576, .i32⟩
  | 103 => ⟨S193x12x16x576, .i32⟩
  | 104 => ⟨S193x12x16x576, .i8⟩
  | 105 => ⟨S193x12x16x576, .i32⟩
  | 106 => ⟨S193x12x16x576, .i32⟩
  | 107 => ⟨S193x12x16x576, .i32⟩
  | 108 => ⟨S5x5x576, .i32⟩
  | 109 => ⟨S_, .i32⟩
  | 110 => ⟨S_, .i32⟩
  | 111 => ⟨S193x16x20x576, .i32⟩
  | 112 => ⟨S_, .i32⟩
  | 113 => ⟨S193x12x16x576, .i32⟩
  | 114 => ⟨S193x12x16x576, .i32⟩
  | 115 => ⟨S1x1x576, .i32⟩
  | 116 => ⟨S576, .i32⟩
  | 117 => ⟨S1x1x1x576, .i32⟩
  | 118 => ⟨S193x12x16x576, .i32⟩
  | 119 => ⟨S193x12x16x576, .i32⟩
  | 120 => ⟨S193x12x16x576, .i32⟩
  | 121 => ⟨S193x12x16x576, .i32⟩
  | 122 => ⟨S1x1x576, .i32⟩
  | 123 => ⟨S576, .i32⟩
  | 124 => ⟨S1x1x1x576, .i32⟩
  | 125 => ⟨S193x12x16x576, .i32⟩
  | 126 => ⟨S193x12x16x576, .i32⟩
  | 127 => ⟨S193x12x16x576, .i32⟩
  | _ => ⟨S193x12x16x96, .i8⟩

abbrev hbmTy0_2 (i : Nat) : BufTy := match i % 128 with
  | 0 => ⟨S193x12x16x576, .i32⟩
  | 1 => ⟨S1x1x576, .i32⟩
  | 2 => ⟨S576, .i32⟩
  | 3 => ⟨S1x1x1x576, .i32⟩
  | 4 => ⟨S193x12x16x576, .i32⟩
  | 5 => ⟨S193x12x16x576, .i32⟩
  | 6 => ⟨S193x12x16x576, .i32⟩
  | 7 => ⟨S193x12x16x576, .i32⟩
  | 8 => ⟨S1x1x576, .i32⟩
  | 9 => ⟨S576, .i32⟩
  | 10 => ⟨S1x1x1x576, .i32⟩
  | 11 => ⟨S193x12x16x576, .i32⟩
  | 12 => ⟨S193x12x16x576, .i32⟩
  | 13 => ⟨S193x12x16x576, .i32⟩
  | 14 => ⟨S193x12x16x576, .i32⟩
  | 15 => ⟨S1x1x576, .i32⟩
  | 16 => ⟨S576, .i32⟩
  | 17 => ⟨S1x1x1x576, .i32⟩
  | 18 => ⟨S193x12x16x576, .i32⟩
  | 19 => ⟨S193x12x16x576, .i32⟩
  | 20 => ⟨S193x12x16x576, .i32⟩
  | 21 => ⟨S193x12x16x576, .i32⟩
  | 22 => ⟨S1x1x576, .i32⟩
  | 23 => ⟨S576, .i32⟩
  | 24 => ⟨S1x1x1x576, .i32⟩
  | 25 => ⟨S193x12x16x576, .i32⟩
  | 26 => ⟨S193x12x16x576, .i32⟩
  | 27 => ⟨S193x12x16x576, .i32⟩
  | 28 => ⟨S193x12x16x576, .i32⟩
  | 29 => ⟨S1x1x576, .i32⟩
  | 30 => ⟨S576, .i32⟩
  | 31 => ⟨S1x1x1x576, .i32⟩
  | 32 => ⟨S193x12x16x576, .i32⟩
  | 33 => ⟨S193x12x16x576, .i32⟩
  | 34 => ⟨S193x12x16x576, .i32⟩
  | 35 => ⟨S193x12x16x576, .i32⟩
  | 36 => ⟨S1x1x576, .i32⟩
  | 37 => ⟨S576, .i32⟩
  | 38 => ⟨S1x1x1x576, .i32⟩
  | 39 => ⟨S193x12x16x576, .i32⟩
  | 40 => ⟨S193x12x16x576, .i32⟩
  | 41 => ⟨S193x12x16x576, .i32⟩
  | 42 => ⟨S193x12x16x576, .i32⟩
  | 43 => ⟨S1x1x576, .i32⟩
  | 44 => ⟨S576, .i32⟩
  | 45 => ⟨S1x1x1x576, .i32⟩
  | 46 => ⟨S193x12x16x576, .i32⟩
  | 47 => ⟨S193x12x16x576, .i32⟩
  | 48 => ⟨S193x12x16x576, .i32⟩
  | 49 => ⟨S193x12x16x576, .i32⟩
  | 50 => ⟨S1x1x576, .i32⟩
  | 51 => ⟨S576, .i32⟩
  | 52 => ⟨S1x1x1x576, .i32⟩
  | 53 => ⟨S193x12x16x576, .i32⟩
  | 54 => ⟨S193x12x16x576, .i32⟩
  | 55 => ⟨S193x12x16x576, .i32⟩
  | 56 => ⟨S193x12x16x576, .i32⟩
  | 57 => ⟨S1x1x576, .i32⟩
  | 58 => ⟨S576, .i32⟩
  | 59 => ⟨S1x1x1x576, .i32⟩
  | 60 => ⟨S193x12x16x576, .i32⟩
  | 61 => ⟨S193x12x16x576, .i32⟩
  | 62 => ⟨S193x12x16x576, .i32⟩
  | 63 => ⟨S193x12x16x576, .i32⟩
  | 64 => ⟨S1x1x576, .i32⟩
  | 65 => ⟨S576, .i32⟩
  | 66 => ⟨S1x1x1x576, .i32⟩
  | 67 => ⟨S193x12x16x576, .i32⟩
  | 68 => ⟨S193x12x16x576, .i32⟩
  | 69 => ⟨S193x12x16x576, .i32⟩
  | 70 => ⟨S193x12x16x576, .i32⟩
  | 71 => ⟨S1x1x576, .i32⟩
  | 72 => ⟨S576, .i32⟩
  | 73 => ⟨S1x1x1x576, .i32⟩
  | 74 => ⟨S193x12x16x576, .i32⟩
  | 75 => ⟨S193x12x16x576, .i32⟩
  | 76 => ⟨S193x12x16x576, .i32⟩
  | 77 => ⟨S193x12x16x576, .i32⟩
  | 78 => ⟨S1x1x576, .i32⟩
  | 79 => ⟨S576, .i32⟩
  | 80 => ⟨S1x1x1x576, .i32⟩
  | 81 => ⟨S193x12x16x576, .i32⟩
  | 82 => ⟨S193x12x16x576, .i32⟩
  | 83 => ⟨S193x12x16x576, .i32⟩
  | 84 => ⟨S193x12x16x576, .i32⟩
  | 85 => ⟨S1x1x576, .i32⟩
  | 86 => ⟨S576, .i32⟩
  | 87 => ⟨S1x1x1x576, .i32⟩
  | 88 => ⟨S193x12x16x576, .i32⟩
  | 89 => ⟨S193x12x16x576, .i32⟩
  | 90 => ⟨S193x12x16x576, .i32⟩
  | 91 => ⟨S193x12x16x576, .i32⟩
  | 92 => ⟨S1x1x576, .i32⟩
  | 93 => ⟨S576, .i32⟩
  | 94 => ⟨S1x1x1x576, .i32⟩
  | 95 => ⟨S193x12x16x576, .i32⟩
  | 96 => ⟨S193x12x16x576, .i32⟩
  | 97 => ⟨S193x12x16x576, .i32⟩
  | 98 => ⟨S193x12x16x576, .i32⟩
  | 99 => ⟨S1x1x576, .i32⟩
  | 100 => ⟨S576, .i32⟩
  | 101 => ⟨S1x1x1x576, .i32⟩
  | 102 => ⟨S193x12x16x576, .i32⟩
  | 103 => ⟨S193x12x16x576, .i32⟩
  | 104 => ⟨S193x12x16x576, .i32⟩
  | 105 => ⟨S193x12x16x576, .i32⟩
  | 106 => ⟨S1x1x576, .i32⟩
  | 107 => ⟨S576, .i32⟩
  | 108 => ⟨S1x1x1x576, .i32⟩
  | 109 => ⟨S193x12x16x576, .i32⟩
  | 110 => ⟨S193x12x16x576, .i32⟩
  | 111 => ⟨S193x12x16x576, .i32⟩
  | 112 => ⟨S193x12x16x576, .i32⟩
  | 113 => ⟨S1x1x576, .i32⟩
  | 114 => ⟨S576, .i32⟩
  | 115 => ⟨S1x1x1x576, .i32⟩
  | 116 => ⟨S193x12x16x576, .i32⟩
  | 117 => ⟨S193x12x16x576, .i32⟩
  | 118 => ⟨S193x12x16x576, .i32⟩
  | 119 => ⟨S193x12x16x576, .i32⟩
  | 120 => ⟨S1x1x576, .i32⟩
  | 121 => ⟨S576, .i32⟩
  | 122 => ⟨S1x1x1x576, .i32⟩
  | 123 => ⟨S193x12x16x576, .i32⟩
  | 124 => ⟨S193x12x16x576, .i32⟩
  | 125 => ⟨S193x12x16x576, .i32⟩
  | 126 => ⟨S193x12x16x576, .i32⟩
  | 127 => ⟨S1x1x576, .i32⟩
  | _ => ⟨S193x12x16x96, .i8⟩

abbrev hbmTy0_3 (i : Nat) : BufTy := match i % 128 with
  | 0 => ⟨S576, .i32⟩
  | 1 => ⟨S1x1x1x576, .i32⟩
  | 2 => ⟨S193x12x16x576, .i32⟩
  | 3 => ⟨S193x12x16x576, .i32⟩
  | 4 => ⟨S193x12x16x576, .i32⟩
  | 5 => ⟨S193x12x16x576, .i32⟩
  | 6 => ⟨S1x1x576, .i32⟩
  | 7 => ⟨S576, .i32⟩
  | 8 => ⟨S1x1x1x576, .i32⟩
  | 9 => ⟨S193x12x16x576, .i32⟩
  | 10 => ⟨S193x12x16x576, .i32⟩
  | 11 => ⟨S193x12x16x576, .i32⟩
  | 12 => ⟨S193x12x16x576, .i32⟩
  | 13 => ⟨S1x1x576, .i32⟩
  | 14 => ⟨S576, .i32⟩
  | 15 => ⟨S1x1x1x576, .i32⟩
  | 16 => ⟨S193x12x16x576, .i32⟩
  | 17 => ⟨S193x12x16x576, .i32⟩
  | 18 => ⟨S193x12x16x576, .i32⟩
  | 19 => ⟨S193x12x16x576, .i32⟩
  | 20 => ⟨S1x1x576, .i32⟩
  | 21 => ⟨S576, .i32⟩
  | 22 => ⟨S1x1x1x576, .i32⟩
  | 23 => ⟨S193x12x16x576, .i32⟩
  | 24 => ⟨S193x12x16x576, .i32⟩
  | 25 => ⟨S193x12x16x576, .i32⟩
  | 26 => ⟨S193x12x16x576, .i32⟩
  | 27 => ⟨S1x1x576, .i32⟩
  | 28 => ⟨S576, .i32⟩
  | 29 => ⟨S1x1x1x576, .i32⟩
  | 30 => ⟨S193x12x16x576, .i32⟩
  | 31 => ⟨S193x12x16x576, .i32⟩
  | 32 => ⟨S193x12x16x576, .i32⟩
  | 33 => ⟨S1x1x1x576, .i32⟩
  | 34 => ⟨S193x12x16x576, .i32⟩
  | 35 => ⟨S193x12x16x576, .i32⟩
  | 36 => ⟨S_, .i32⟩
  | 37 => ⟨S193x12x16x576, .i32⟩
  | 38 => ⟨S193x12x16x576, .i1⟩
  | 39 => ⟨S193x12x16x576, .i32⟩
  | 40 => ⟨S193x12x16x576, .i32⟩
  | 41 => ⟨S193x12x16x576, .i32⟩
  | 42 => ⟨S576, .i32⟩
  | 43 => ⟨S_, .i32⟩
  | 44 => ⟨S193x12x16x576, .i32⟩
  | 45 => ⟨S193x12x16x576, .i32⟩
  | 46 => ⟨S_, .i32⟩
  | 47 => ⟨S193x12x16x576, .i32⟩
  | 48 => ⟨S193x12x16x576, .i32⟩
  | 49 => ⟨S_, .i32⟩
  | 50 => ⟨S576, .i32⟩
  | 51 => ⟨S576, .i32⟩
  | 52 => ⟨S_, .i32⟩
  | 53 => ⟨S576, .i32⟩
  | 54 => ⟨S576, .i32⟩
  | 55 => ⟨S1x1x1x576, .i32⟩
  | 56 => ⟨S193x12x16x576, .i32⟩
  | 57 => ⟨S193x12x16x576, .i32⟩
  | 58 => ⟨S1x1x1x576, .i32⟩
  | 59 => ⟨S193x12x16x576, .i32⟩
  | 60 => ⟨S193x12x16x576, .i32⟩
  | 61 => ⟨S1x1x1x576, .i32⟩
  | 62 => ⟨S193x12x16x576, .i32⟩
  | 63 => ⟨S193x12x16x576, .i32⟩
  | 64 => ⟨S1x1x1x576, .i32⟩
  | 65 => ⟨S193x12x16x576, .i32⟩
  | 66 => ⟨S193x12x16x576, .i32⟩
  | 67 => ⟨S_, .i32⟩
  | 68 => ⟨S193x12x16x576, .i32⟩
  | 69 => ⟨S193x12x16x576, .i32⟩
  | 70 => ⟨S_, .i32⟩
  | 71 => ⟨S193x12x16x576, .i32⟩
  | 72 => ⟨S193x12x16x576, .i32⟩
  | 73 => ⟨S193x12x16x576, .i32⟩
  | 74 => ⟨S_, .i32⟩
  | 75 => ⟨S193x12x16x576, .i32⟩
  | 76 => ⟨S193x12x16x576, .i32⟩
  | 77 => ⟨S193x12x16x576, .i32⟩
  | 78 => ⟨S_, .i32⟩
  | 79 => ⟨S193x12x16x576, .i32⟩
  | 80 => ⟨S193x12x16x576, .i32⟩
  | 81 => ⟨S_, .i32⟩
  | 82 => ⟨S193x12x16x576, .i32⟩
  | 83 => ⟨S193x12x16x576, .i32⟩
  | 84 => ⟨S193x12x16x576, .i32⟩
  | 85 => ⟨S_, .i32⟩
  | 86 => ⟨S193x12x16x576, .i32⟩
  | 87 => ⟨S193x12x16x576, .i32⟩
  | 88 => ⟨S193x12x16x576, .i32⟩
  | 89 => ⟨S_, .i32⟩
  | 90 => ⟨S193x12x16x576, .i32⟩
  | 91 => ⟨S193x12x16x576, .i32⟩
  | 92 => ⟨S193x12x16x576, .i32⟩
  | 93 => ⟨S_, .i32⟩
  | 94 => ⟨S193x12x16x576, .i32⟩
  | 95 => ⟨S193x12x16x576, .i32⟩
  | 96 => ⟨S_, .i32⟩
  | 97 => ⟨S193x12x16x576, .i32⟩
  | 98 => ⟨S193x12x16x576, .i32⟩
  | 99 => ⟨S193x12x16x576, .i32⟩
  | 100 => ⟨S_, .i32⟩
  | 101 => ⟨S193x12x16x576, .i32⟩
  | 102 => ⟨S193x12x16x576, .i32⟩
  | 103 => ⟨S_, .i32⟩
  | 104 => ⟨S193x12x16x576, .i32⟩
  | 105 => ⟨S193x12x16x576, .i32⟩
  | 106 => ⟨S_, .i32⟩
  | 107 => ⟨S193x12x16x576, .i32⟩
  | 108 => ⟨S193x12x16x576, .i32⟩
  | 109 => ⟨S193x12x16x576, .i32⟩
  | 110 => ⟨S_, .i32⟩
  | 111 => ⟨S193x12x16x576, .i32⟩
  | 112 => ⟨S193x12x16x576, .i32⟩
  | 113 => ⟨S_, .i32⟩
  | 114 => ⟨S193x12x16x576, .i32⟩
  | 115 => ⟨S193x12x16x576, .i32⟩
  | 116 => ⟨S193x12x16x576, .i32⟩
  | 117 => ⟨S_, .i32⟩
  | 118 => ⟨S576, .i32⟩
  | 119 => ⟨S576, .i1⟩
  | 120 => ⟨S_, .i32⟩
  | 121 => ⟨S193x12x16x576, .i32⟩
  | 122 => ⟨S193x12x16x576, .i32⟩
  | 123 => ⟨S_, .i32⟩
  | 124 => ⟨S576, .i32⟩
  | 125 => ⟨S576, .i32⟩
  | 126 => ⟨S_, .i32⟩
  | 127 => ⟨S_, .i32⟩
  | _ => ⟨S193x12x16x96, .i8⟩

abbrev hbmTy0_4 (i : Nat) : BufTy := match i % 128 with
  | 0 => ⟨S_, .i32⟩
  | 1 => ⟨S576, .i32⟩
  | 2 => ⟨S576, .i32⟩
  | 3 => ⟨S_, .i32⟩
  | 4 => ⟨S576, .i32⟩
  | 5 => ⟨S576, .i32⟩
  | 6 => ⟨S576, .i32⟩
  | 7 => ⟨S_, .i32⟩
  | 8 => ⟨S576, .i32⟩
  | 9 => ⟨S576, .i32⟩
  | 10 => ⟨S1x1x1x576, .i32⟩
  | 11 => ⟨S193x12x16x576, .i32⟩
  | 12 => ⟨S193x12x16x576, .i32⟩
  | 13 => ⟨S193x12x16x576, .i1⟩
  | 14 => ⟨S193x12x16x576, .i32⟩
  | 15 => ⟨S_, .i32⟩
  | 16 => ⟨S576, .i32⟩
  | 17 => ⟨S576, .i32⟩
  | 18 => ⟨S_, .i32⟩
  | 19 => ⟨S_, .i32⟩
  | 20 => ⟨S_, .i32⟩
  | 21 => ⟨S576, .i32⟩
  | 22 => ⟨S576, .i32⟩
  | 23 => ⟨S_, .i32⟩
  | 24 => ⟨S576, .i32⟩
  | 25 => ⟨S576, .i32⟩
  | 26 => ⟨S576, .i32⟩
  | 27 => ⟨S_, .i32⟩
  | 28 => ⟨S576, .i32⟩
  | 29 => ⟨S576, .i32⟩
  | 30 => ⟨S1x1x1x576, .i32⟩
  | 31 => ⟨S193x12x16x576, .i32⟩
  | 32 => ⟨S193x12x16x576, .i32⟩
  | 33 => ⟨S_, .i32⟩
  | 34 => ⟨S193x12x16x576, .i1⟩
  | 35 => ⟨S193x12x16x576, .i32⟩
  | 36 => ⟨S193x12x16x576, .i32⟩
  | 37 => ⟨S193x12x16x576, .i32⟩
  | 38 => ⟨S193x12x16x576, .i32⟩
  | 39 => ⟨S193x12x16x576, .i1⟩
  | 40 => ⟨S193x12x16x576, .i32⟩
  | 41 => ⟨S193x12x16x576, .i32⟩
  | 42 => ⟨S_, .i32⟩
  | 43 => ⟨S_, .i32⟩
  | 44 => ⟨S_, .i32⟩
  | 45 => ⟨S576, .i32⟩
  | 46 => ⟨S576, .i32⟩
  | 47 => ⟨S_, .i32⟩
  | 48 => ⟨S576, .i32⟩
  | 49 => ⟨S576, .i32⟩
  | 50 => ⟨S576, .i32⟩
  | 51 => ⟨S1x1x1x576, .i32⟩
  | 52 => ⟨S193x12x16x576, .i32⟩
  | 53 => ⟨S193x12x16x576, .i32⟩
  | 54 => ⟨S_, .i32⟩
  | 55 => ⟨S576, .i32⟩
  | 56 => ⟨S576, .i32⟩
  | 57 => ⟨S_, .i32⟩
  | 58 => ⟨S_, .i32⟩
  | 59 => ⟨S_, .i32⟩
  | 60 => ⟨S576, .i32⟩
  | 61 => ⟨S576, .i32⟩
  | 62 => ⟨S_, .i32⟩
  | 63 => ⟨S576, .i32⟩
  | 64 => ⟨S576, .i32⟩
  | 65 => ⟨S576, .i32⟩
  | 66 => ⟨S1x1x1x576, .i32⟩
  | 67 => ⟨S193x12x16x576, .i32⟩
  | 68 => ⟨S193x12x16x576, .i32⟩
  | 69 => ⟨S193x12x16x576, .i32⟩
  | 70 => ⟨S_, .i32⟩
  | 71 => ⟨S576, .i32⟩
  | 72 => ⟨S576, .i32⟩
  | 73 => ⟨S_, .i32⟩
  | 74 => ⟨S_, .i32⟩
  | 75 => ⟨S_, .i32⟩
  | 76 => ⟨S576, .i32⟩
  | 77 => ⟨S576, .i32⟩
  | 78 => ⟨S_, .i32⟩
  | 79 => ⟨S576, .i32⟩
  | 80 => ⟨S576, .i32⟩
  | 81 => ⟨S576, .i32⟩
  | 82 => ⟨S1x1x1x576, .i32⟩
  | 83 => ⟨S193x12x16x576, .i32⟩
  | 84 => ⟨S193x12x16x576, .i32⟩
  | 85 => ⟨S_, .i32⟩
  | 86 => ⟨S576, .i32⟩
  | 87 => ⟨S576, .i1⟩
  | 88 => ⟨S193x12x16x576, .i1⟩
  | 89 => ⟨S193x12x16x576, .i32⟩
  | 90 => ⟨S193x12x16x576, .i32⟩
  | 91 => ⟨S193x12x16x576, .i32⟩
  | 92 => ⟨S193x12x16x576, .i32⟩
  | 93 => ⟨S193x12x16x576, .i32⟩
  | 94 => ⟨S193x12x16x576, .i32⟩
  | 95 => ⟨S_, .i32⟩
  | 96 => ⟨S193x12x16x576, .i32⟩
  | 97 => ⟨S193x12x16x576, .i32⟩
  | 98 => ⟨S_, .i32⟩
  | 99 => ⟨S193x12x16x576, .i32⟩
  | 100 => ⟨S193x12x16x576, .i32⟩
  | 101 => ⟨S193x12x16x576, .i8⟩
  | 102 => ⟨S193x12x16x576, .i32⟩
  | 103 => ⟨S193x12x16x576x1, .i32⟩
  | 104 => ⟨S576x96, .i32⟩
  | 105 => ⟨S1x1x1x576x96, .i32⟩
  | 106 => ⟨S193x12x16x576x96, .i32⟩
  | 107 => ⟨S193x12x16x576x96, .i32⟩
  | 108 => ⟨S193x12x16x576x96, .i32⟩
  | 109 => ⟨S_, .i32⟩
  | 110 => ⟨S193x12x16x96, .i32⟩
  | 111 => ⟨S576x96, .i32⟩
  | 112 => ⟨S_, .i32⟩
  | 113 => ⟨S96, .i32⟩
  | 114 => ⟨S96, .i32⟩
  | 115 => ⟨S96, .i32⟩
  | 116 => ⟨S1x1x1x96, .i32⟩
  | 117 => ⟨S193x12x16x96, .i32⟩
  | 118 => ⟨S193x12x16x96, .i32⟩
  | 119 => ⟨S1x1x1x96, .i32⟩
  | 120 => ⟨S193x12x16x96, .i32⟩
  | 121 => ⟨S193x12x16x96, .i32⟩
  | 122 => ⟨S_, .i32⟩
  | 123 => ⟨S193x12x16x96, .i32⟩
  | 124 => ⟨S193x12x16x96, .i1⟩
  | 125 => ⟨S193x12x16x96, .i32⟩
  | 126 => ⟨S193x12x16x96, .i32⟩
  | 127 => ⟨S193x12x16x96, .i32⟩
  | _ => ⟨S193x12x16x96, .i8⟩

abbrev hbmTy0_5 (i : Nat) : BufTy := match i % 128 with
  | 0 => ⟨S96, .i32⟩
  | 1 => ⟨S_, .i32⟩
  | 2 => ⟨S193x12x16x96, .i32⟩
  | 3 => ⟨S193x12x16x96, .i32⟩
  | 4 => ⟨S_, .i32⟩
  | 5 => ⟨S193x12x16x96, .i32⟩
  | 6 => ⟨S193x12x16x96, .i32⟩
  | 7 => ⟨S_, .i32⟩
  | 8 => ⟨S96, .i32⟩
  | 9 => ⟨S96, .i32⟩
  | 10 => ⟨S_, .i32⟩
  | 11 => ⟨S96, .i32⟩
  | 12 => ⟨S96, .i32⟩
  | 13 => ⟨S1x1x1x96, .i32⟩
  | 14 => ⟨S193x12x16x96, .i32⟩
  | 15 => ⟨S193x12x16x96, .i32⟩
  | 16 => ⟨S1x1x1x96, .i32⟩
  | 17 => ⟨S193x12x16x96, .i32⟩
  | 18 => ⟨S193x12x16x96, .i32⟩
  | 19 => ⟨S1x1x1x96, .i32⟩
  | 20 => ⟨S193x12x16x96, .i32⟩
  | 21 => ⟨S193x12x16x96, .i32⟩
  | 22 => ⟨S1x1x1x96, .i32⟩
  | 23 => ⟨S193x12x16x96, .i32⟩
  | 24 => ⟨S193x12x16x96, .i32⟩
  | 25 => ⟨S_, .i32⟩
  | 26 => ⟨S193x12x16x96, .i32⟩
  | 27 => ⟨S193x12x16x96, .i32⟩
  | 28 => ⟨S_, .i32⟩
  | 29 => ⟨S193x12x16x96, .i32⟩
  | 30 => ⟨S193x12x16x96, .i32⟩
  | 31 => ⟨S193x12x16x96, .i32⟩
  | 32 => ⟨S_, .i32⟩
  | 33 => ⟨S193x12x16x96, .i32⟩
  | 34 => ⟨S193x12x16x96, .i32⟩
  | 35 => ⟨S193x12x16x96, .i32⟩
  | 36 => ⟨S_, .i32⟩
  | 37 => ⟨S193x12x16x96, .i32⟩
  | 38 => ⟨S193x12x16x96, .i32⟩
  | 39 => ⟨S_, .i32⟩
  | 40 => ⟨S193x12x16x96, .i32⟩
  | 41 => ⟨S193x12x16x96, .i32⟩
  | 42 => ⟨S193x12x16x96, .i32⟩
  | 43 => ⟨S_, .i32⟩
  | 44 => ⟨S193x12x16x96, .i32⟩
  | 45 => ⟨S193x12x16x96, .i32⟩
  | 46 => ⟨S193x12x16x96, .i32⟩
  | 47 => ⟨S_, .i32⟩
  | 48 => ⟨S193x12x16x96, .i32⟩
  | 49 => ⟨S193x12x16x96, .i32⟩
  | 50 => ⟨S193x12x16x96, .i32⟩
  | 51 => ⟨S_, .i32⟩
  | 52 => ⟨S193x12x16x96, .i32⟩
  | 53 => ⟨S193x12x16x96, .i32⟩
  | 54 => ⟨S_, .i32⟩
  | 55 => ⟨S193x12x16x96, .i32⟩
  | 56 => ⟨S193x12x16x96, .i32⟩
  | 57 => ⟨S193x12x16x96, .i32⟩
  | 58 => ⟨S_, .i32⟩
  | 59 => ⟨S193x12x16x96, .i32⟩
  | 60 => ⟨S193x12x16x96, .i32⟩
  | 61 => ⟨S_, .i32⟩
  | 62 => ⟨S193x12x16x96, .i32⟩
  | 63 => ⟨S193x12x16x96, .i32⟩
  | 64 => ⟨S_, .i32⟩
  | 65 => ⟨S193x12x16x96, .i32⟩
  | 66 => ⟨S193x12x16x96, .i32⟩
  | 67 => ⟨S193x12x16x96, .i32⟩
  | 68 => ⟨S_, .i32⟩
  | 69 => ⟨S193x12x16x96, .i32⟩
  | 70 => ⟨S193x12x16x96, .i32⟩
  | 71 => ⟨S_, .i32⟩
  | 72 => ⟨S193x12x16x96, .i32⟩
  | 73 => ⟨S193x12x16x96, .i32⟩
  | 74 => ⟨S193x12x16x96, .i32⟩
  | 75 => ⟨S_, .i32⟩
  | 76 => ⟨S96, .i32⟩
  | 77 => ⟨S96, .i1⟩
  | 78 => ⟨S_, .i32⟩
  | 79 => ⟨S193x12x16x96, .i32⟩
  | 80 => ⟨S193x12x16x96, .i32⟩
  | 81 => ⟨S_, .i32⟩
  | 82 => ⟨S96, .i32⟩
  | 83 => ⟨S96, .i32⟩
  | 84 => ⟨S_, .i32⟩
  | 85 => ⟨S_, .i32⟩
  | 86 => ⟨S_, .i32⟩
  | 87 => ⟨S96, .i32⟩
  | 88 => ⟨S96, .i32⟩
  | 89 => ⟨S_, .i32⟩
  | 90 => ⟨S96, .i32⟩
  | 91 => ⟨S96, .i32⟩
  | 92 => ⟨S96, .i32⟩
  | 93 => ⟨S_, .i32⟩
  | 94 => ⟨S96, .i32⟩
  | 95 => ⟨S96, .i32⟩
  | 96 => ⟨S1x1x1x96, .i32⟩
  | 97 => ⟨S193x12x16x96, .i32⟩
  | 98 => ⟨S193x12x16x96, .i32⟩
  | 99 => ⟨S193x12x16x96, .i1⟩
  | 100 => ⟨S193x12x16x96, .i32⟩
  | 101 => ⟨S_, .i32⟩
  | 102 => ⟨S96, .i32⟩
  | 103 => ⟨S96, .i32⟩
  | 104 => ⟨S_, .i32⟩
  | 105 => ⟨S_, .i32⟩
  | 106 => ⟨S_, .i32⟩
  | 107 => ⟨S96, .i32⟩
  | 108 => ⟨S96, .i32⟩
  | 109 => ⟨S_, .i32⟩
  | 110 => ⟨S96, .i32⟩
  | 111 => ⟨S96, .i32⟩
  | 112 => ⟨S96, .i32⟩
  | 113 => ⟨S_, .i32⟩
  | 114 => ⟨S96, .i32⟩
  | 115 => ⟨S96, .i32⟩
  | 116 => ⟨S1x1x1x96, .i32⟩
  | 117 => ⟨S193x12x16x96, .i32⟩
  | 118 => ⟨S193x12x16x96, .i32⟩
  | 119 => ⟨S_, .i32⟩
  | 120 => ⟨S193x12x16x96, .i1⟩
  | 121 => ⟨S193x12x16x96, .i32⟩
  | 122 => ⟨S193x12x16x96, .i32⟩
  | 123 => ⟨S193x12x16x96, .i32⟩
  | 124 => ⟨S193x12x16x96, .i32⟩
  | 125 => ⟨S193x12x16x96, .i1⟩
  | 126 => ⟨S193x12x16x96, .i32⟩
  | 127 => ⟨S193x12x16x96, .i32⟩
  | _ => ⟨S193x12x16x96, .i8⟩

abbrev hbmTy0_6 (i : Nat) : BufTy := match i % 128 with
  | 0 => ⟨S_, .i32⟩
  | 1 => ⟨S_, .i32⟩
  | 2 => ⟨S_, .i32⟩
  | 3 => ⟨S96, .i32⟩
  | 4 => ⟨S96, .i32⟩
  | 5 => ⟨S_, .i32⟩
  | 6 => ⟨S96, .i32⟩
  | 7 => ⟨S96, .i32⟩
  | 8 => ⟨S96, .i32⟩
  | 9 => ⟨S1x1x1x96, .i32⟩
  | 10 => ⟨S193x12x16x96, .i32⟩
  | 11 => ⟨S193x12x16x96, .i32⟩
  | 12 => ⟨S_, .i32⟩
  | 13 => ⟨S96, .i32⟩
  | 14 => ⟨S96, .i32⟩
  | 15 => ⟨S_, .i32⟩
  | 16 => ⟨S_, .i32⟩
  | 17 => ⟨S_, .i32⟩
  | 18 => ⟨S96, .i32⟩
  | 19 => ⟨S96, .i32⟩
  | 20 => ⟨S_, .i32⟩
  | 21 => ⟨S96, .i32⟩
  | 22 => ⟨S96, .i32⟩
  | 23 => ⟨S96, .i32⟩
  | 24 => ⟨S1x1x1x96, .i32⟩
  | 25 => ⟨S193x12x16x96, .i32⟩
  | 26 => ⟨S193x12x16x96, .i32⟩
  | 27 => ⟨S193x12x16x96, .i32⟩
  | 28 => ⟨S_, .i32⟩
  | 29 => ⟨S96, .i32⟩
  | 30 => ⟨S96, .i32⟩
  | 31 => ⟨S_, .i32⟩
  | 32 => ⟨S_, .i32⟩
  | 33 => ⟨S_, .i32⟩
  | 34 => ⟨S96, .i32⟩
  | 35 => ⟨S96, .i32⟩
  | 36 => ⟨S_, .i32⟩
  | 37 => ⟨S96, .i32⟩
  | 38 => ⟨S96, .i32⟩
  | 39 => ⟨S96, .i32⟩
  | 40 => ⟨S1x1x1x96, .i32⟩
  | 41 => ⟨S193x12x16x96, .i32⟩
  | 42 => ⟨S193x12x16x96, .i32⟩
  | 43 => ⟨S_, .i32⟩
  | 44 => ⟨S96, .i32⟩
  | 45 => ⟨S96, .i1⟩
  | 46 => ⟨S193x12x16x96, .i1⟩
  | 47 => ⟨S193x12x16x96, .i32⟩
  | 48 => ⟨S193x12x16x96, .i32⟩
  | 49 => ⟨S193x12x16x96, .i32⟩
  | 50 => ⟨S193x12x16x96, .i32⟩
  | 51 => ⟨S193x12x16x96, .i32⟩
  | 52 => ⟨S193x12x16x96, .i32⟩
  | 53 => ⟨S_, .i32⟩
  | 54 => ⟨S_, .i32⟩
  | 55 => ⟨S_, .i32⟩
  | 56 => ⟨S193x12x16x96, .i32⟩
  | 57 => ⟨S193x12x16x96, .i32⟩
  | 58 => ⟨S_, .i32⟩
  | 59 => ⟨S193x12x16x96, .i32⟩
  | 60 => ⟨S193x12x16x96, .i32⟩
  | 61 => ⟨S193x12x16x96, .i8⟩
  | 62 => ⟨S193x12x16x96, .i32⟩
  | 63 => ⟨S193x12x16x96, .i32⟩
  | 64 => ⟨S193x12x16x96, .i32⟩
  | 65 => ⟨S_, .i32⟩
  | 66 => ⟨S193x12x16x96, .i32⟩
  | 67 => ⟨S193x12x16x96, .i32⟩
  | 68 => ⟨S1, .i32⟩
  | 69 => ⟨S_, .i32⟩
  | 70 => ⟨S1, .i32⟩
  | 71 => ⟨S_, .i32⟩
  | 72 => ⟨S_, .i32⟩
  | 73 => ⟨S193x12x16x96, .i32⟩
  | 74 => ⟨S193x12x16x96, .i1⟩
  | 75 => ⟨S193x12x16x96, .i32⟩
  | 76 => ⟨S193x12x16x96, .i32⟩
  | 77 => ⟨S193x12x16x96, .i32⟩
  | 78 => ⟨S_, .i32⟩
  | 79 => ⟨S_, .i32⟩
  | 80 => ⟨S193x12x16x96, .i32⟩
  | 81 => ⟨S193x12x16x96, .i32⟩
  | 82 => ⟨S_, .i32⟩
  | 83 => ⟨S193x12x16x96, .i32⟩
  | 84 => ⟨S193x12x16x96, .i32⟩
  | 85 => ⟨S_, .i32⟩
  | 86 => ⟨S_, .i32⟩
  | 87 => ⟨S_, .i32⟩
  | 88 => ⟨S_, .i32⟩
  | 89 => ⟨S193x12x16x96, .i32⟩
  | 90 => ⟨S193x12x16x96, .i32⟩
  | 91 => ⟨S193x12x16x96, .i32⟩
  | 92 => ⟨S193x12x16x96, .i32⟩
  | 93 => ⟨S193x12x16x96, .i32⟩
  | 94 => ⟨S193x12x16x96, .i32⟩
  | 95 => ⟨S193x12x16x96, .i32⟩
  | 96 => ⟨S193x12x16x96, .i32⟩
  | 97 => ⟨S_, .i32⟩
  | 98 => ⟨S193x12x16x96, .i32⟩
  | 99 => ⟨S193x12x16x96, .i32⟩
  | 100 => ⟨S_, .i32⟩
  | 101 => ⟨S193x12x16x96, .i32⟩
  | 102 => ⟨S193x12x16x96, .i32⟩
  | 103 => ⟨S193x12x16x96, .i32⟩
  | 104 => ⟨S_, .i32⟩
  | 105 => ⟨S193x12x16x96, .i32⟩
  | 106 => ⟨S193x12x16x96, .i32⟩
  | 107 => ⟨S193x12x16x96, .i32⟩
  | 108 => ⟨S_, .i32⟩
  | 109 => ⟨S193x12x16x96, .i32⟩
  | 110 => ⟨S193x12x16x96, .i32⟩
  | 111 => ⟨S_, .i32⟩
  | 112 => ⟨S193x12x16x96, .i32⟩
  | 113 => ⟨S193x12x16x96, .i32⟩
  | 114 => ⟨S193x12x16x96, .i32⟩
  | 115 => ⟨S_, .i32⟩
  | 116 => ⟨S193x12x16x96, .i32⟩
  | 117 => ⟨S193x12x16x96, .i32⟩
  | 118 => ⟨S193x12x16x96, .i32⟩
  | 119 => ⟨S_, .i32⟩
  | 120 => ⟨S193x12x16x96, .i32⟩
  | 121 => ⟨S193x12x16x96, .i32⟩
  | 122 => ⟨S193x12x16x96, .i32⟩
  | 123 => ⟨S_, .i32⟩
  | 124 => ⟨S193x12x16x96, .i32⟩
  | 125 => ⟨S193x12x16x96, .i32⟩
  | 126 => ⟨S_, .i32⟩
  | 127 => ⟨S193x12x16x96, .i32⟩
  | _ => ⟨S193x12x16x96, .i8⟩

abbrev hbmTy0_7 (i : Nat) : BufTy := match i % 128 with
  | 0 => ⟨S193x12x16x96, .i32⟩
  | 1 => ⟨S193x12x16x96, .i32⟩
  | 2 => ⟨S_, .i32⟩
  | 3 => ⟨S193x12x16x96, .i32⟩
  | 4 => ⟨S193x12x16x96, .i32⟩
  | 5 => ⟨S_, .i32⟩
  | 6 => ⟨S193x12x16x96, .i32⟩
  | 7 => ⟨S193x12x16x96, .i32⟩
  | 8 => ⟨S_, .i32⟩
  | 9 => ⟨S193x12x16x96, .i32⟩
  | 10 => ⟨S193x12x16x96, .i32⟩
  | 11 => ⟨S193x12x16x96, .i32⟩
  | 12 => ⟨S_, .i32⟩
  | 13 => ⟨S193x12x16x96, .i32⟩
  | 14 => ⟨S193x12x16x96, .i32⟩
  | 15 => ⟨S_, .i32⟩
  | 16 => ⟨S193x12x16x96, .i32⟩
  | 17 => ⟨S193x12x16x96, .i32⟩
  | 18 => ⟨S193x12x16x96, .i32⟩
  | 19 => ⟨S_, .i32⟩
  | 20 => ⟨S_, .i1⟩
  | 21 => ⟨S_, .i32⟩
  | 22 => ⟨S193x12x16x96, .i32⟩
  | 23 => ⟨S193x12x16x96, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S193x12x16x96, .i32⟩
  | 36 => ⟨S193x12x16x96, .i32⟩
  | 37 => ⟨S193x12x16x96, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S193x12x16x96, .i32⟩
  | 50 => ⟨S193x12x16x96, .i32⟩
  | 51 => ⟨S_, .i32⟩
  | 52 => ⟨S193x12x16x96, .i32⟩
  | 53 => ⟨S193x12x16x96, .i32⟩
  | 54 => ⟨S193x12x16x96, .i32⟩
  | 55 => ⟨S193x12x16x96, .i32⟩
  | 56 => ⟨S193x12x16x96, .i1⟩
  | 57 => ⟨S193x12x16x96, .i32⟩
  | 58 => ⟨S193x12x16x96, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S193x12x16x96, .i32⟩
  | 67 => ⟨S193x12x16x96, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S193x12x16x96, .i32⟩
  | 78 => ⟨S193x12x16x96, .i32⟩
  | 79 => ⟨S193x12x16x96, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S193x12x16x96, .i32⟩
  | 90 => ⟨S193x12x16x96, .i32⟩
  | 91 => ⟨S_, .i32⟩
  | 92 => ⟨S_, .i1⟩
  | 93 => ⟨S193x12x16x96, .i32⟩
  | 94 => ⟨S193x12x16x96, .i32⟩
  | 95 => ⟨S193x12x16x96, .i32⟩
  | 96 => ⟨S193x12x16x96, .i32⟩
  | 97 => ⟨S193x12x16x96, .i32⟩
  | 98 => ⟨S193x12x16x96, .i32⟩
  | 99 => ⟨S193x12x16x96, .i32⟩
  | 100 => ⟨S_, .i32⟩
  | 101 => ⟨S193x12x16x96, .i32⟩
  | 102 => ⟨S193x12x16x96, .i32⟩
  | 103 => ⟨S1, .i32⟩
  | 104 => ⟨S_, .i32⟩
  | 105 => ⟨S1, .i32⟩
  | 106 => ⟨S_, .i32⟩
  | 107 => ⟨S_, .i32⟩
  | 108 => ⟨S193x12x16x96, .i32⟩
  | 109 => ⟨S193x12x16x96, .i1⟩
  | 110 => ⟨S193x12x16x96, .i32⟩
  | 111 => ⟨S193x12x16x96, .i32⟩
  | 112 => ⟨S193x12x16x96, .i32⟩
  | 113 => ⟨S_, .i32⟩
  | 114 => ⟨S_, .i32⟩
  | 115 => ⟨S193x12x16x96, .i32⟩
  | 116 => ⟨S193x12x16x96, .i32⟩
  | 117 => ⟨S_, .i32⟩
  | 118 => ⟨S193x12x16x96, .i32⟩
  | 119 => ⟨S193x12x16x96, .i32⟩
  | 120 => ⟨S_, .i32⟩
  | 121 => ⟨S_, .i32⟩
  | 122 => ⟨S_, .i32⟩
  | 123 => ⟨S_, .i32⟩
  | 124 => ⟨S193x12x16x96, .i32⟩
  | 125 => ⟨S193x12x16x96, .i32⟩
  | 126 => ⟨S193x12x16x96, .i32⟩
  | 127 => ⟨S193x12x16x96, .i32⟩
  | _ => ⟨S193x12x16x96, .i8⟩

abbrev hbmTy0_8 (i : Nat) : BufTy := match i % 128 with
  | 0 => ⟨S193x12x16x96, .i32⟩
  | 1 => ⟨S193x12x16x96, .i32⟩
  | 2 => ⟨S193x12x16x96, .i32⟩
  | 3 => ⟨S193x12x16x96, .i32⟩
  | 4 => ⟨S_, .i32⟩
  | 5 => ⟨S193x12x16x96, .i32⟩
  | 6 => ⟨S193x12x16x96, .i32⟩
  | 7 => ⟨S_, .i32⟩
  | 8 => ⟨S193x12x16x96, .i32⟩
  | 9 => ⟨S193x12x16x96, .i32⟩
  | 10 => ⟨S193x12x16x96, .i32⟩
  | 11 => ⟨S_, .i32⟩
  | 12 => ⟨S193x12x16x96, .i32⟩
  | 13 => ⟨S193x12x16x96, .i32⟩
  | 14 => ⟨S193x12x16x96, .i32⟩
  | 15 => ⟨S_, .i32⟩
  | 16 => ⟨S193x12x16x96, .i32⟩
  | 17 => ⟨S193x12x16x96, .i32⟩
  | 18 => ⟨S_, .i32⟩
  | 19 => ⟨S193x12x16x96, .i32⟩
  | 20 => ⟨S193x12x16x96, .i32⟩
  | 21 => ⟨S193x12x16x96, .i32⟩
  | 22 => ⟨S_, .i32⟩
  | 23 => ⟨S193x12x16x96, .i32⟩
  | 24 => ⟨S193x12x16x96, .i32⟩
  | 25 => ⟨S193x12x16x96, .i32⟩
  | 26 => ⟨S_, .i32⟩
  | 27 => ⟨S193x12x16x96, .i32⟩
  | 28 => ⟨S193x12x16x96, .i32⟩
  | 29 => ⟨S193x12x16x96, .i32⟩
  | 30 => ⟨S_, .i32⟩
  | 31 => ⟨S193x12x16x96, .i32⟩
  | 32 => ⟨S193x12x16x96, .i32⟩
  | 33 => ⟨S_, .i32⟩
  | 34 => ⟨S193x12x16x96, .i32⟩
  | 35 => ⟨S193x12x16x96, .i32⟩
  | 36 => ⟨S193x12x16x96, .i32⟩
  | 37 => ⟨S_, .i32⟩
  | 38 => ⟨S193x12x16x96, .i32⟩
  | 39 => ⟨S193x12x16x96, .i32⟩
  | 40 => ⟨S_, .i32⟩
  | 41 => ⟨S193x12x16x96, .i32⟩
  | 42 => ⟨S193x12x16x96, .i32⟩
  | 43 => ⟨S_, .i32⟩
  | 44 => ⟨S193x12x16x96, .i32⟩
  | 45 => ⟨S193x12x16x96, .i32⟩
  | 46 => ⟨S193x12x16x96, .i32⟩
  | 47 => ⟨S_, .i32⟩
  | 48 => ⟨S193x12x16x96, .i32⟩
  | 49 => ⟨S193x12x16x96, .i32⟩
  | 50 => ⟨S_, .i32⟩
  | 51 => ⟨S193x12x16x96, .i32⟩
  | 52 => ⟨S193x12x16x96, .i32⟩
  | 53 => ⟨S193x12x16x96, .i32⟩
  | 54 => ⟨S_, .i32⟩
  | 55 => ⟨S_, .i1⟩
  | 56 => ⟨S_, .i32⟩
  | 57 => ⟨S193x12x16x96, .i32⟩
  | 58 => ⟨S193x12x16x96, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S193x12x16x96, .i32⟩
  | 71 => ⟨S193x12x16x96, .i32⟩
  | 72 => ⟨S193x12x16x96, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S193x12x16x96, .i32⟩
  | 85 => ⟨S193x12x16x96, .i32⟩
  | 86 => ⟨S_, .i32⟩
  | 87 => ⟨S193x12x16x96, .i32⟩
  | 88 => ⟨S193x12x16x96, .i32⟩
  | 89 => ⟨S193x12x16x96, .i32⟩
  | 90 => ⟨S193x12x16x96, .i32⟩
  | 91 => ⟨S193x12x16x96, .i1⟩
  | 92 => ⟨S193x12x16x96, .i32⟩
  | 93 => ⟨S193x12x16x96, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S193x12x16x96, .i32⟩
  | 102 => ⟨S193x12x16x96, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S193x12x16x96, .i32⟩
  | 113 => ⟨S193x12x16x96, .i32⟩
  | 114 => ⟨S193x12x16x96, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S193x12x16x96, .i32⟩
  | 125 => ⟨S193x12x16x96, .i32⟩
  | 126 => ⟨S_, .i32⟩
  | 127 => ⟨S_, .i1⟩
  | _ => ⟨S193x12x16x96, .i8⟩

abbrev hbmTy0_9 (i : Nat) : BufTy := match i % 128 with
  | 0 => ⟨S193x12x16x96, .i32⟩
  | 1 => ⟨S193x12x16x96, .i32⟩
  | 2 => ⟨S193x12x16x96, .i32⟩
  | 3 => ⟨S193x12x16x96, .i32⟩
  | 4 => ⟨S193x12x16x96, .i32⟩
  | 5 => ⟨S1, .i32⟩
  | 6 => ⟨S_, .i32⟩
  | 7 => ⟨S1, .i32⟩
  | 8 => ⟨S_, .i32⟩
  | 9 => ⟨S_, .i32⟩
  | 10 => ⟨S193x12x16x96, .i32⟩
  | 11 => ⟨S193x12x16x96, .i1⟩
  | 12 => ⟨S193x12x16x96, .i32⟩
  | 13 => ⟨S193x12x16x96, .i32⟩
  | 14 => ⟨S193x12x16x96, .i32⟩
  | 15 => ⟨S_, .i32⟩
  | 16 => ⟨S_, .i32⟩
  | 17 => ⟨S193x12x16x96, .i32⟩
  | 18 => ⟨S193x12x16x96, .i32⟩
  | 19 => ⟨S_, .i32⟩
  | 20 => ⟨S193x12x16x96, .i32⟩
  | 21 => ⟨S193x12x16x96, .i32⟩
  | 22 => ⟨S_, .i32⟩
  | 23 => ⟨S_, .i32⟩
  | 24 => ⟨S_, .i32⟩
  | 25 => ⟨S_, .i32⟩
  | 26 => ⟨S193x12x16x96, .i32⟩
  | 27 => ⟨S193x12x16x96, .i32⟩
  | 28 => ⟨S193x12x16x96, .i32⟩
  | 29 => ⟨S193x12x16x96, .i32⟩
  | 30 => ⟨S193x12x16x96, .i32⟩
  | 31 => ⟨S193x12x16x96, .i32⟩
  | 32 => ⟨S193x12x16x96, .i32⟩
  | 33 => ⟨S193x12x16x96, .i32⟩
  | 34 => ⟨S_, .i32⟩
  | 35 => ⟨S193x12x16x96, .i32⟩
  | 36 => ⟨S193x12x16x96, .i32⟩
  | 37 => ⟨S_, .i32⟩
  | 38 => ⟨S193x12x16x96, .i32⟩
  | 39 => ⟨S193x12x16x96, .i32⟩
  | 40 => ⟨S193x12x16x96, .i32⟩
  | 41 => ⟨S_, .i32⟩
  | 42 => ⟨S193x12x16x96, .i32⟩
  | 43 => ⟨S193x12x16x96, .i32⟩
  | 44 => ⟨S193x12x16x96, .i32⟩
  | 45 => ⟨S_, .i32⟩
  | 46 => ⟨S193x12x16x96, .i32⟩
  | 47 => ⟨S193x12x16x96, .i32⟩
  | 48 => ⟨S_, .i32⟩
  | 49 => ⟨S193x12x16x96, .i32⟩
  | 50 => ⟨S193x12x16x96, .i32⟩
  | 51 => ⟨S193x12x16x96, .i32⟩
  | 52 => ⟨S_, .i32⟩
  | 53 => ⟨S193x12x16x96, .i32⟩
  | 54 => ⟨S193x12x16x96, .i32⟩
  | 55 => ⟨S193x12x16x96, .i32⟩
  | 56 => ⟨S_, .i32⟩
  | 57 => ⟨S193x12x16x96, .i32⟩
  | 58 => ⟨S193x12x16x96, .i32⟩
  | 59 => ⟨S193x12x16x96, .i32⟩
  | 60 => ⟨S_, .i32⟩
  | 61 => ⟨S193x12x16x96, .i32⟩
  | 62 => ⟨S193x12x16x96, .i32⟩
  | 63 => ⟨S_, .i32⟩
  | 64 => ⟨S193x12x16x96, .i32⟩
  | 65 => ⟨S193x12x16x96, .i32⟩
  | 66 => ⟨S193x12x16x96, .i32⟩
  | 67 => ⟨S_, .i32⟩
  | 68 => ⟨S193x12x16x96, .i32⟩
  | 69 => ⟨S193x12x16x96, .i32⟩
  | 70 => ⟨S_, .i32⟩
  | 71 => ⟨S193x12x16x96, .i32⟩
  | 72 => ⟨S193x12x16x96, .i32⟩
  | 73 => ⟨S_, .i32⟩
  | 74 => ⟨S193x12x16x96, .i32⟩
  | 75 => ⟨S193x12x16x96, .i32⟩
  | 76 => ⟨S193x12x16x96, .i32⟩
  | 77 => ⟨S_, .i32⟩
  | 78 => ⟨S193x12x16x96, .i32⟩
  | 79 => ⟨S193x12x16x96, .i32⟩
  | 80 => ⟨S_, .i32⟩
  | 81 => ⟨S193x12x16x96, .i32⟩
  | 82 => ⟨S193x12x16x96, .i32⟩
  | 83 => ⟨S193x12x16x96, .i32⟩
  | 84 => ⟨S_, .i32⟩
  | 85 => ⟨S_, .i1⟩
  | 86 => ⟨S_, .i32⟩
  | 87 => ⟨S193x12x16x96, .i32⟩
  | 88 => ⟨S193x12x16x96, .i32⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S193x12x16x96, .i32⟩
  | 101 => ⟨S193x12x16x96, .i32⟩
  | 102 => ⟨S193x12x16x96, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S193x12x16x96, .i32⟩
  | 115 => ⟨S193x12x16x96, .i32⟩
  | 116 => ⟨S_, .i32⟩
  | 117 => ⟨S193x12x16x96, .i32⟩
  | 118 => ⟨S193x12x16x96, .i32⟩
  | 119 => ⟨S193x12x16x96, .i32⟩
  | 120 => ⟨S193x12x16x96, .i32⟩
  | 121 => ⟨S193x12x16x96, .i1⟩
  | 122 => ⟨S193x12x16x96, .i32⟩
  | 123 => ⟨S193x12x16x96, .i32⟩
  | 124 => ⟨S_, .i32⟩
  | 125 => ⟨S_, .i32⟩
  | 126 => ⟨S_, .i32⟩
  | 127 => ⟨S_, .i32⟩
  | _ => ⟨S193x12x16x96, .i8⟩

abbrev hbmTy0_10 (i : Nat) : BufTy := match i % 128 with
  | 0 => ⟨S_, .i32⟩
  | 1 => ⟨S_, .i32⟩
  | 2 => ⟨S_, .i32⟩
  | 3 => ⟨S193x12x16x96, .i32⟩
  | 4 => ⟨S193x12x16x96, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S193x12x16x96, .i32⟩
  | 15 => ⟨S193x12x16x96, .i32⟩
  | 16 => ⟨S193x12x16x96, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S193x12x16x96, .i32⟩
  | 27 => ⟨S193x12x16x96, .i32⟩
  | 28 => ⟨S_, .i32⟩
  | 29 => ⟨S_, .i1⟩
  | 30 => ⟨S193x12x16x96, .i32⟩
  | 31 => ⟨S193x12x16x96, .i32⟩
  | 32 => ⟨S193x12x16x96, .i32⟩
  | 33 => ⟨S193x12x16x96, .i32⟩
  | 34 => ⟨S193x12x16x96, .i32⟩
  | 35 => ⟨S193x12x16x96, .i32⟩
  | 36 => ⟨S_, .i32⟩
  | 37 => ⟨S_, .i32⟩
  | 38 => ⟨S_, .i32⟩
  | 39 => ⟨S193x12x16x96, .i32⟩
  | 40 => ⟨S193x12x16x96, .i32⟩
  | 41 => ⟨S_, .i32⟩
  | 42 => ⟨S193x12x16x96, .i32⟩
  | 43 => ⟨S193x12x16x96, .i32⟩
  | 44 => ⟨S193x12x16x96, .i8⟩
  | 45 => ⟨S193x192x96, .i8⟩
  | 46 => ⟨S193x192x576, .i8⟩
  | _ => ⟨S193x12x16x96, .i8⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S193x12x16x96, .i8⟩

abbrev bufTy : (tb : Table) → Fin (tcTables nBuf tb) → BufTy
  | .hbm, ⟨i, _⟩ => hbmTy i
  | _, _ => ⟨S193x12x16x96, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c : Ref sig .tc := ⟨.hbm, 26, rfl⟩
abbrev main_v7 : Ref sig .tc := ⟨.hbm, 27, rfl⟩
abbrev main_v8 : Ref sig .tc := ⟨.hbm, 28, rfl⟩
abbrev main_c_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_2 : Ref sig .tc := ⟨.hbm, 46, rfl⟩
abbrev main_v24 : Ref sig .tc := ⟨.hbm, 47, rfl⟩
abbrev main_v25 : Ref sig .tc := ⟨.hbm, 48, rfl⟩
abbrev main_c_3 : Ref sig .tc := ⟨.hbm, 49, rfl⟩
abbrev main_v26 : Ref sig .tc := ⟨.hbm, 50, rfl⟩
abbrev main_v27 : Ref sig .tc := ⟨.hbm, 51, rfl⟩
abbrev main_c_4 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_6 : Ref sig .tc := ⟨.hbm, 70, rfl⟩
abbrev main_v44 : Ref sig .tc := ⟨.hbm, 71, rfl⟩
abbrev main_v45 : Ref sig .tc := ⟨.hbm, 72, rfl⟩
abbrev main_c_7 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_8 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_9 : Ref sig .tc := ⟨.hbm, 81, rfl⟩
abbrev main_v52 : Ref sig .tc := ⟨.hbm, 82, rfl⟩
abbrev main_v53 : Ref sig .tc := ⟨.hbm, 83, rfl⟩
abbrev main_c_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_12 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_c_13 : Ref sig .tc := ⟨.hbm, 96, rfl⟩
abbrev main_v63 : Ref sig .tc := ⟨.hbm, 97, rfl⟩
abbrev main_v64 : Ref sig .tc := ⟨.hbm, 98, rfl⟩
abbrev main_c_14 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_c_15 : Ref sig .tc := ⟨.hbm, 103, rfl⟩
abbrev main_v68 : Ref sig .tc := ⟨.hbm, 104, rfl⟩
abbrev main_v69 : Ref sig .tc := ⟨.hbm, 105, rfl⟩
abbrev main_c_16 : Ref sig .tc := ⟨.hbm, 106, rfl⟩
abbrev main_v70 : Ref sig .tc := ⟨.hbm, 107, rfl⟩
abbrev main_v71 : Ref sig .tc := ⟨.hbm, 108, rfl⟩
abbrev main_c_17 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_18 : Ref sig .tc := ⟨.hbm, 113, rfl⟩
abbrev main_v75 : Ref sig .tc := ⟨.hbm, 114, rfl⟩
abbrev main_v76 : Ref sig .tc := ⟨.hbm, 115, rfl⟩
abbrev main_c_19 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_c_20 : Ref sig .tc := ⟨.hbm, 120, rfl⟩
abbrev main_v80 : Ref sig .tc := ⟨.hbm, 121, rfl⟩
abbrev main_v81 : Ref sig .tc := ⟨.hbm, 122, rfl⟩
abbrev main_c_21 : Ref sig .tc := ⟨.hbm, 123, rfl⟩
abbrev main_v82 : Ref sig .tc := ⟨.hbm, 124, rfl⟩
abbrev main_v83 : Ref sig .tc := ⟨.hbm, 125, rfl⟩
abbrev main_c_22 : Ref sig .tc := ⟨.hbm, 126, rfl⟩
abbrev main_v84 : Ref sig .tc := ⟨.hbm, 127, rfl⟩
abbrev main_v85 : Ref sig .tc := ⟨.hbm, 128, rfl⟩
abbrev main_c_23 : Ref sig .tc := ⟨.hbm, 129, rfl⟩
abbrev main_c_24 : Ref sig .tc := ⟨.hbm, 130, rfl⟩
abbrev main_call0_v0 : Ref sig .tc := ⟨.hbm, 131, rfl⟩
abbrev main_call0_v1 : Ref sig .tc := ⟨.hbm, 132, rfl⟩
abbrev main_call0_v2 : Ref sig .tc := ⟨.hbm, 133, rfl⟩
abbrev main_call0_v3 : Ref sig .tc := ⟨.hbm, 134, rfl⟩
abbrev main_call0_v4 : Ref sig .tc := ⟨.hbm, 135, rfl⟩
abbrev main_v86 : Ref sig .tc := ⟨.hbm, 136, rfl⟩
abbrev main_v87 : Ref sig .tc := ⟨.hbm, 137, rfl⟩
abbrev main_c_25 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_call1_v0 : Ref sig .tc := ⟨.hbm, 144, rfl⟩
abbrev main_v93 : Ref sig .tc := ⟨.hbm, 145, rfl⟩
abbrev main_c_26 : Ref sig .tc := ⟨.hbm, 146, rfl⟩
abbrev main_v94 : Ref sig .tc := ⟨.hbm, 147, rfl⟩
abbrev main_v95 : Ref sig .tc := ⟨.hbm, 148, rfl⟩
abbrev main_c_27 : Ref sig .tc := ⟨.hbm, 149, rfl⟩
abbrev main_c_28 : Ref sig .tc := ⟨.hbm, 150, rfl⟩
abbrev main_call2_v0 : Ref sig .tc := ⟨.hbm, 151, rfl⟩
abbrev main_call2_v1 : Ref sig .tc := ⟨.hbm, 152, rfl⟩
abbrev main_call2_v2 : Ref sig .tc := ⟨.hbm, 153, rfl⟩
abbrev main_call2_v3 : Ref sig .tc := ⟨.hbm, 154, rfl⟩
abbrev main_call2_v4 : Ref sig .tc := ⟨.hbm, 155, rfl⟩
abbrev main_v96 : Ref sig .tc := ⟨.hbm, 156, rfl⟩
abbrev main_v97 : Ref sig .tc := ⟨.hbm, 157, rfl⟩
abbrev main_c_29 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_c_30 : Ref sig .tc := ⟨.hbm, 164, rfl⟩
abbrev main_call3_v0 : Ref sig .tc := ⟨.hbm, 165, rfl⟩
abbrev main_call3_v1 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_c_31 : Ref sig .tc := ⟨.hbm, 173, rfl⟩
abbrev main_c_32 : Ref sig .tc := ⟨.hbm, 174, rfl⟩
abbrev main_call4_v0 : Ref sig .tc := ⟨.hbm, 175, rfl⟩
abbrev main_call4_v1 : Ref sig .tc := ⟨.hbm, 176, rfl⟩
abbrev main_call4_v2 : Ref sig .tc := ⟨.hbm, 177, rfl⟩
abbrev main_call4_v3 : Ref sig .tc := ⟨.hbm, 178, rfl⟩
abbrev main_call4_v4 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_c_33 : Ref sig .tc := ⟨.hbm, 185, rfl⟩
abbrev main_v114 : Ref sig .tc := ⟨.hbm, 186, rfl⟩
abbrev main_v115 : Ref sig .tc := ⟨.hbm, 187, rfl⟩
abbrev main_c_34 : Ref sig .tc := ⟨.hbm, 188, rfl⟩
abbrev main_c_35 : Ref sig .tc := ⟨.hbm, 189, rfl⟩
abbrev main_call5_v0 : Ref sig .tc := ⟨.hbm, 190, rfl⟩
abbrev main_call5_v1 : Ref sig .tc := ⟨.hbm, 191, rfl⟩
abbrev main_call5_v2 : Ref sig .tc := ⟨.hbm, 192, rfl⟩
abbrev main_call5_v3 : Ref sig .tc := ⟨.hbm, 193, rfl⟩
abbrev main_call5_v4 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_c_36 : Ref sig .tc := ⟨.hbm, 201, rfl⟩
abbrev main_v122 : Ref sig .tc := ⟨.hbm, 202, rfl⟩
abbrev main_v123 : Ref sig .tc := ⟨.hbm, 203, rfl⟩
abbrev main_c_37 : Ref sig .tc := ⟨.hbm, 204, rfl⟩
abbrev main_c_38 : Ref sig .tc := ⟨.hbm, 205, rfl⟩
abbrev main_call6_v0 : Ref sig .tc := ⟨.hbm, 206, rfl⟩
abbrev main_call6_v1 : Ref sig .tc := ⟨.hbm, 207, rfl⟩
abbrev main_call6_v2 : Ref sig .tc := ⟨.hbm, 208, rfl⟩
abbrev main_call6_v3 : Ref sig .tc := ⟨.hbm, 209, rfl⟩
abbrev main_call6_v4 : Ref sig .tc := ⟨.hbm, 210, rfl⟩
abbrev main_v124 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_c_39 : Ref sig .tc := ⟨.hbm, 216, rfl⟩
abbrev main_v129 : Ref sig .tc := ⟨.hbm, 217, rfl⟩
abbrev main_v130 : Ref sig .tc := ⟨.hbm, 218, rfl⟩
abbrev main_call7_v0 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_c_40 : Ref sig .tc := ⟨.hbm, 226, rfl⟩
abbrev main_call9_v0 : Ref sig .tc := ⟨.hbm, 227, rfl⟩
abbrev main_call9_v1 : Ref sig .tc := ⟨.hbm, 228, rfl⟩
abbrev main_call9_v2 : Ref sig .tc := ⟨.hbm, 229, rfl⟩
abbrev main_call9_v3 : Ref sig .tc := ⟨.hbm, 230, rfl⟩
abbrev main_v137 : Ref sig .tc := ⟨.hbm, 231, rfl⟩
abbrev main_v138 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_v142 : Ref sig .tc := ⟨.hbm, 236, rfl⟩
abbrev main_c_41 : Ref sig .tc := ⟨.hbm, 237, rfl⟩
abbrev main_call10_v0 : Ref sig .tc := ⟨.hbm, 238, rfl⟩
abbrev main_v143 : Ref sig .tc := ⟨.hbm, 239, rfl⟩
abbrev main_c_42 : Ref sig .tc := ⟨.hbm, 240, rfl⟩
abbrev main_v144 : Ref sig .tc := ⟨.hbm, 241, rfl⟩
abbrev main_v145 : Ref sig .tc := ⟨.hbm, 242, rfl⟩
abbrev main_v146 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_v152 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_v156 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_v163 : Ref sig .tc := ⟨.hbm, 260, rfl⟩
abbrev main_v164 : Ref sig .tc := ⟨.hbm, 261, rfl⟩
abbrev main_v165 : Ref sig .tc := ⟨.hbm, 262, rfl⟩
abbrev main_v166 : Ref sig .tc := ⟨.hbm, 263, rfl⟩
abbrev main_v167 : Ref sig .tc := ⟨.hbm, 264, rfl⟩
abbrev main_v168 : Ref sig .tc := ⟨.hbm, 265, rfl⟩
abbrev main_v169 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_v173 : Ref sig .tc := ⟨.hbm, 270, rfl⟩
abbrev main_v174 : Ref sig .tc := ⟨.hbm, 271, rfl⟩
abbrev main_v175 : Ref sig .tc := ⟨.hbm, 272, rfl⟩
abbrev main_v176 : Ref sig .tc := ⟨.hbm, 273, rfl⟩
abbrev main_v177 : Ref sig .tc := ⟨.hbm, 274, rfl⟩
abbrev main_v178 : Ref sig .tc := ⟨.hbm, 275, rfl⟩
abbrev main_v179 : Ref sig .tc := ⟨.hbm, 276, rfl⟩
abbrev main_v180 : Ref sig .tc := ⟨.hbm, 277, rfl⟩
abbrev main_v181 : Ref sig .tc := ⟨.hbm, 278, rfl⟩
abbrev main_v182 : Ref sig .tc := ⟨.hbm, 279, rfl⟩
abbrev main_v183 : Ref sig .tc := ⟨.hbm, 280, rfl⟩
abbrev main_v184 : Ref sig .tc := ⟨.hbm, 281, rfl⟩
abbrev main_v185 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩
abbrev main_v192 : Ref sig .tc := ⟨.hbm, 289, rfl⟩
abbrev main_v193 : Ref sig .tc := ⟨.hbm, 290, rfl⟩
abbrev main_v194 : Ref sig .tc := ⟨.hbm, 291, rfl⟩
abbrev main_v195 : Ref sig .tc := ⟨.hbm, 292, rfl⟩
abbrev main_v196 : Ref sig .tc := ⟨.hbm, 293, rfl⟩
abbrev main_v197 : Ref sig .tc := ⟨.hbm, 294, rfl⟩
abbrev main_v198 : Ref sig .tc := ⟨.hbm, 295, rfl⟩
abbrev main_v199 : Ref sig .tc := ⟨.hbm, 296, rfl⟩
abbrev main_v200 : Ref sig .tc := ⟨.hbm, 297, rfl⟩
abbrev main_v201 : Ref sig .tc := ⟨.hbm, 298, rfl⟩
abbrev main_v202 : Ref sig .tc := ⟨.hbm, 299, rfl⟩
abbrev main_v203 : Ref sig .tc := ⟨.hbm, 300, rfl⟩
abbrev main_v204 : Ref sig .tc := ⟨.hbm, 301, rfl⟩
abbrev main_v205 : Ref sig .tc := ⟨.hbm, 302, rfl⟩
abbrev main_v206 : Ref sig .tc := ⟨.hbm, 303, rfl⟩
abbrev main_v207 : Ref sig .tc := ⟨.hbm, 304, rfl⟩
abbrev main_v208 : Ref sig .tc := ⟨.hbm, 305, rfl⟩
abbrev main_v209 : Ref sig .tc := ⟨.hbm, 306, rfl⟩
abbrev main_v210 : Ref sig .tc := ⟨.hbm, 307, rfl⟩
abbrev main_v211 : Ref sig .tc := ⟨.hbm, 308, rfl⟩
abbrev main_v212 : Ref sig .tc := ⟨.hbm, 309, rfl⟩
abbrev main_v213 : Ref sig .tc := ⟨.hbm, 310, rfl⟩
abbrev main_v214 : Ref sig .tc := ⟨.hbm, 311, rfl⟩
abbrev main_v215 : Ref sig .tc := ⟨.hbm, 312, rfl⟩
abbrev main_v216 : Ref sig .tc := ⟨.hbm, 313, rfl⟩
abbrev main_v217 : Ref sig .tc := ⟨.hbm, 314, rfl⟩
abbrev main_v218 : Ref sig .tc := ⟨.hbm, 315, rfl⟩
abbrev main_v219 : Ref sig .tc := ⟨.hbm, 316, rfl⟩
abbrev main_v220 : Ref sig .tc := ⟨.hbm, 317, rfl⟩
abbrev main_v221 : Ref sig .tc := ⟨.hbm, 318, rfl⟩
abbrev main_v222 : Ref sig .tc := ⟨.hbm, 319, rfl⟩
abbrev main_v223 : Ref sig .tc := ⟨.hbm, 320, rfl⟩
abbrev main_v224 : Ref sig .tc := ⟨.hbm, 321, rfl⟩
abbrev main_v225 : Ref sig .tc := ⟨.hbm, 322, rfl⟩
abbrev main_v226 : Ref sig .tc := ⟨.hbm, 323, rfl⟩
abbrev main_v227 : Ref sig .tc := ⟨.hbm, 324, rfl⟩
abbrev main_v228 : Ref sig .tc := ⟨.hbm, 325, rfl⟩
abbrev main_v229 : Ref sig .tc := ⟨.hbm, 326, rfl⟩
abbrev main_v230 : Ref sig .tc := ⟨.hbm, 327, rfl⟩
abbrev main_v231 : Ref sig .tc := ⟨.hbm, 328, rfl⟩
abbrev main_v232 : Ref sig .tc := ⟨.hbm, 329, rfl⟩
abbrev main_v233 : Ref sig .tc := ⟨.hbm, 330, rfl⟩
abbrev main_v234 : Ref sig .tc := ⟨.hbm, 331, rfl⟩
abbrev main_v235 : Ref sig .tc := ⟨.hbm, 332, rfl⟩
abbrev main_v236 : Ref sig .tc := ⟨.hbm, 333, rfl⟩
abbrev main_v237 : Ref sig .tc := ⟨.hbm, 334, rfl⟩
abbrev main_v238 : Ref sig .tc := ⟨.hbm, 335, rfl⟩
abbrev main_v239 : Ref sig .tc := ⟨.hbm, 336, rfl⟩
abbrev main_v240 : Ref sig .tc := ⟨.hbm, 337, rfl⟩
abbrev main_v241 : Ref sig .tc := ⟨.hbm, 338, rfl⟩
abbrev main_v242 : Ref sig .tc := ⟨.hbm, 339, rfl⟩
abbrev main_v243 : Ref sig .tc := ⟨.hbm, 340, rfl⟩
abbrev main_v244 : Ref sig .tc := ⟨.hbm, 341, rfl⟩
abbrev main_v245 : Ref sig .tc := ⟨.hbm, 342, rfl⟩
abbrev main_v246 : Ref sig .tc := ⟨.hbm, 343, rfl⟩
abbrev main_v247 : Ref sig .tc := ⟨.hbm, 344, rfl⟩
abbrev main_v248 : Ref sig .tc := ⟨.hbm, 345, rfl⟩
abbrev main_v249 : Ref sig .tc := ⟨.hbm, 346, rfl⟩
abbrev main_v250 : Ref sig .tc := ⟨.hbm, 347, rfl⟩
abbrev main_v251 : Ref sig .tc := ⟨.hbm, 348, rfl⟩
abbrev main_v252 : Ref sig .tc := ⟨.hbm, 349, rfl⟩
abbrev main_v253 : Ref sig .tc := ⟨.hbm, 350, rfl⟩
abbrev main_v254 : Ref sig .tc := ⟨.hbm, 351, rfl⟩
abbrev main_v255 : Ref sig .tc := ⟨.hbm, 352, rfl⟩
abbrev main_v256 : Ref sig .tc := ⟨.hbm, 353, rfl⟩
abbrev main_v257 : Ref sig .tc := ⟨.hbm, 354, rfl⟩
abbrev main_v258 : Ref sig .tc := ⟨.hbm, 355, rfl⟩
abbrev main_v259 : Ref sig .tc := ⟨.hbm, 356, rfl⟩
abbrev main_v260 : Ref sig .tc := ⟨.hbm, 357, rfl⟩
abbrev main_v261 : Ref sig .tc := ⟨.hbm, 358, rfl⟩
abbrev main_v262 : Ref sig .tc := ⟨.hbm, 359, rfl⟩
abbrev main_v263 : Ref sig .tc := ⟨.hbm, 360, rfl⟩
abbrev main_v264 : Ref sig .tc := ⟨.hbm, 361, rfl⟩
abbrev main_v265 : Ref sig .tc := ⟨.hbm, 362, rfl⟩
abbrev main_v266 : Ref sig .tc := ⟨.hbm, 363, rfl⟩
abbrev main_v267 : Ref sig .tc := ⟨.hbm, 364, rfl⟩
abbrev main_v268 : Ref sig .tc := ⟨.hbm, 365, rfl⟩
abbrev main_v269 : Ref sig .tc := ⟨.hbm, 366, rfl⟩
abbrev main_v270 : Ref sig .tc := ⟨.hbm, 367, rfl⟩
abbrev main_v271 : Ref sig .tc := ⟨.hbm, 368, rfl⟩
abbrev main_v272 : Ref sig .tc := ⟨.hbm, 369, rfl⟩
abbrev main_v273 : Ref sig .tc := ⟨.hbm, 370, rfl⟩
abbrev main_v274 : Ref sig .tc := ⟨.hbm, 371, rfl⟩
abbrev main_v275 : Ref sig .tc := ⟨.hbm, 372, rfl⟩
abbrev main_v276 : Ref sig .tc := ⟨.hbm, 373, rfl⟩
abbrev main_v277 : Ref sig .tc := ⟨.hbm, 374, rfl⟩
abbrev main_v278 : Ref sig .tc := ⟨.hbm, 375, rfl⟩
abbrev main_v279 : Ref sig .tc := ⟨.hbm, 376, rfl⟩
abbrev main_v280 : Ref sig .tc := ⟨.hbm, 377, rfl⟩
abbrev main_v281 : Ref sig .tc := ⟨.hbm, 378, rfl⟩
abbrev main_v282 : Ref sig .tc := ⟨.hbm, 379, rfl⟩
abbrev main_v283 : Ref sig .tc := ⟨.hbm, 380, rfl⟩
abbrev main_v284 : Ref sig .tc := ⟨.hbm, 381, rfl⟩
abbrev main_v285 : Ref sig .tc := ⟨.hbm, 382, rfl⟩
abbrev main_v286 : Ref sig .tc := ⟨.hbm, 383, rfl⟩
abbrev main_v287 : Ref sig .tc := ⟨.hbm, 384, rfl⟩
abbrev main_v288 : Ref sig .tc := ⟨.hbm, 385, rfl⟩
abbrev main_v289 : Ref sig .tc := ⟨.hbm, 386, rfl⟩
abbrev main_v290 : Ref sig .tc := ⟨.hbm, 387, rfl⟩
abbrev main_v291 : Ref sig .tc := ⟨.hbm, 388, rfl⟩
abbrev main_v292 : Ref sig .tc := ⟨.hbm, 389, rfl⟩
abbrev main_v293 : Ref sig .tc := ⟨.hbm, 390, rfl⟩
abbrev main_v294 : Ref sig .tc := ⟨.hbm, 391, rfl⟩
abbrev main_v295 : Ref sig .tc := ⟨.hbm, 392, rfl⟩
abbrev main_v296 : Ref sig .tc := ⟨.hbm, 393, rfl⟩
abbrev main_v297 : Ref sig .tc := ⟨.hbm, 394, rfl⟩
abbrev main_v298 : Ref sig .tc := ⟨.hbm, 395, rfl⟩
abbrev main_v299 : Ref sig .tc := ⟨.hbm, 396, rfl⟩
abbrev main_v300 : Ref sig .tc := ⟨.hbm, 397, rfl⟩
abbrev main_v301 : Ref sig .tc := ⟨.hbm, 398, rfl⟩
abbrev main_v302 : Ref sig .tc := ⟨.hbm, 399, rfl⟩
abbrev main_v303 : Ref sig .tc := ⟨.hbm, 400, rfl⟩
abbrev main_v304 : Ref sig .tc := ⟨.hbm, 401, rfl⟩
abbrev main_v305 : Ref sig .tc := ⟨.hbm, 402, rfl⟩
abbrev main_v306 : Ref sig .tc := ⟨.hbm, 403, rfl⟩
abbrev main_v307 : Ref sig .tc := ⟨.hbm, 404, rfl⟩
abbrev main_v308 : Ref sig .tc := ⟨.hbm, 405, rfl⟩
abbrev main_v309 : Ref sig .tc := ⟨.hbm, 406, rfl⟩
abbrev main_v310 : Ref sig .tc := ⟨.hbm, 407, rfl⟩
abbrev main_v311 : Ref sig .tc := ⟨.hbm, 408, rfl⟩
abbrev main_v312 : Ref sig .tc := ⟨.hbm, 409, rfl⟩
abbrev main_v313 : Ref sig .tc := ⟨.hbm, 410, rfl⟩
abbrev main_v314 : Ref sig .tc := ⟨.hbm, 411, rfl⟩
abbrev main_v315 : Ref sig .tc := ⟨.hbm, 412, rfl⟩
abbrev main_v316 : Ref sig .tc := ⟨.hbm, 413, rfl⟩
abbrev main_v317 : Ref sig .tc := ⟨.hbm, 414, rfl⟩
abbrev main_v318 : Ref sig .tc := ⟨.hbm, 415, rfl⟩
abbrev main_v319 : Ref sig .tc := ⟨.hbm, 416, rfl⟩
abbrev main_v320 : Ref sig .tc := ⟨.hbm, 417, rfl⟩
abbrev main_v321 : Ref sig .tc := ⟨.hbm, 418, rfl⟩
abbrev main_v322 : Ref sig .tc := ⟨.hbm, 419, rfl⟩
abbrev main_c_43 : Ref sig .tc := ⟨.hbm, 420, rfl⟩
abbrev main_v323 : Ref sig .tc := ⟨.hbm, 421, rfl⟩
abbrev main_v324 : Ref sig .tc := ⟨.hbm, 422, rfl⟩
abbrev main_v325 : Ref sig .tc := ⟨.hbm, 423, rfl⟩
abbrev main_v326 : Ref sig .tc := ⟨.hbm, 424, rfl⟩
abbrev main_v327 : Ref sig .tc := ⟨.hbm, 425, rfl⟩
abbrev main_v328 : Ref sig .tc := ⟨.hbm, 426, rfl⟩
abbrev main_c_44 : Ref sig .tc := ⟨.hbm, 427, rfl⟩
abbrev main_v329 : Ref sig .tc := ⟨.hbm, 428, rfl⟩
abbrev main_v330 : Ref sig .tc := ⟨.hbm, 429, rfl⟩
abbrev main_c_45 : Ref sig .tc := ⟨.hbm, 430, rfl⟩
abbrev main_v331 : Ref sig .tc := ⟨.hbm, 431, rfl⟩
abbrev main_v332 : Ref sig .tc := ⟨.hbm, 432, rfl⟩
abbrev main_c_46 : Ref sig .tc := ⟨.hbm, 433, rfl⟩
abbrev main_v333 : Ref sig .tc := ⟨.hbm, 434, rfl⟩
abbrev main_v334 : Ref sig .tc := ⟨.hbm, 435, rfl⟩
abbrev main_c_47 : Ref sig .tc := ⟨.hbm, 436, rfl⟩
abbrev main_v335 : Ref sig .tc := ⟨.hbm, 437, rfl⟩
abbrev main_v336 : Ref sig .tc := ⟨.hbm, 438, rfl⟩
abbrev main_v337 : Ref sig .tc := ⟨.hbm, 439, rfl⟩
abbrev main_v338 : Ref sig .tc := ⟨.hbm, 440, rfl⟩
abbrev main_v339 : Ref sig .tc := ⟨.hbm, 441, rfl⟩
abbrev main_v340 : Ref sig .tc := ⟨.hbm, 442, rfl⟩
abbrev main_v341 : Ref sig .tc := ⟨.hbm, 443, rfl⟩
abbrev main_v342 : Ref sig .tc := ⟨.hbm, 444, rfl⟩
abbrev main_v343 : Ref sig .tc := ⟨.hbm, 445, rfl⟩
abbrev main_v344 : Ref sig .tc := ⟨.hbm, 446, rfl⟩
abbrev main_v345 : Ref sig .tc := ⟨.hbm, 447, rfl⟩
abbrev main_v346 : Ref sig .tc := ⟨.hbm, 448, rfl⟩
abbrev main_v347 : Ref sig .tc := ⟨.hbm, 449, rfl⟩
abbrev main_v348 : Ref sig .tc := ⟨.hbm, 450, rfl⟩
abbrev main_c_48 : Ref sig .tc := ⟨.hbm, 451, rfl⟩
abbrev main_v349 : Ref sig .tc := ⟨.hbm, 452, rfl⟩
abbrev main_v350 : Ref sig .tc := ⟨.hbm, 453, rfl⟩
abbrev main_c_49 : Ref sig .tc := ⟨.hbm, 454, rfl⟩
abbrev main_v351 : Ref sig .tc := ⟨.hbm, 455, rfl⟩
abbrev main_v352 : Ref sig .tc := ⟨.hbm, 456, rfl⟩
abbrev main_v353 : Ref sig .tc := ⟨.hbm, 457, rfl⟩
abbrev main_c_50 : Ref sig .tc := ⟨.hbm, 458, rfl⟩
abbrev main_v354 : Ref sig .tc := ⟨.hbm, 459, rfl⟩
abbrev main_v355 : Ref sig .tc := ⟨.hbm, 460, rfl⟩
abbrev main_v356 : Ref sig .tc := ⟨.hbm, 461, rfl⟩
abbrev main_c_51 : Ref sig .tc := ⟨.hbm, 462, rfl⟩
abbrev main_v357 : Ref sig .tc := ⟨.hbm, 463, rfl⟩
abbrev main_v358 : Ref sig .tc := ⟨.hbm, 464, rfl⟩
abbrev main_c_52 : Ref sig .tc := ⟨.hbm, 465, rfl⟩
abbrev main_v359 : Ref sig .tc := ⟨.hbm, 466, rfl⟩
abbrev main_v360 : Ref sig .tc := ⟨.hbm, 467, rfl⟩
abbrev main_v361 : Ref sig .tc := ⟨.hbm, 468, rfl⟩
abbrev main_c_53 : Ref sig .tc := ⟨.hbm, 469, rfl⟩
abbrev main_v362 : Ref sig .tc := ⟨.hbm, 470, rfl⟩
abbrev main_v363 : Ref sig .tc := ⟨.hbm, 471, rfl⟩
abbrev main_v364 : Ref sig .tc := ⟨.hbm, 472, rfl⟩
abbrev main_c_54 : Ref sig .tc := ⟨.hbm, 473, rfl⟩
abbrev main_v365 : Ref sig .tc := ⟨.hbm, 474, rfl⟩
abbrev main_v366 : Ref sig .tc := ⟨.hbm, 475, rfl⟩
abbrev main_v367 : Ref sig .tc := ⟨.hbm, 476, rfl⟩
abbrev main_c_55 : Ref sig .tc := ⟨.hbm, 477, rfl⟩
abbrev main_v368 : Ref sig .tc := ⟨.hbm, 478, rfl⟩
abbrev main_v369 : Ref sig .tc := ⟨.hbm, 479, rfl⟩
abbrev main_c_56 : Ref sig .tc := ⟨.hbm, 480, rfl⟩
abbrev main_v370 : Ref sig .tc := ⟨.hbm, 481, rfl⟩
abbrev main_v371 : Ref sig .tc := ⟨.hbm, 482, rfl⟩
abbrev main_v372 : Ref sig .tc := ⟨.hbm, 483, rfl⟩
abbrev main_c_57 : Ref sig .tc := ⟨.hbm, 484, rfl⟩
abbrev main_v373 : Ref sig .tc := ⟨.hbm, 485, rfl⟩
abbrev main_v374 : Ref sig .tc := ⟨.hbm, 486, rfl⟩
abbrev main_c_58 : Ref sig .tc := ⟨.hbm, 487, rfl⟩
abbrev main_v375 : Ref sig .tc := ⟨.hbm, 488, rfl⟩
abbrev main_v376 : Ref sig .tc := ⟨.hbm, 489, rfl⟩
abbrev main_c_59 : Ref sig .tc := ⟨.hbm, 490, rfl⟩
abbrev main_v377 : Ref sig .tc := ⟨.hbm, 491, rfl⟩
abbrev main_v378 : Ref sig .tc := ⟨.hbm, 492, rfl⟩
abbrev main_v379 : Ref sig .tc := ⟨.hbm, 493, rfl⟩
abbrev main_c_60 : Ref sig .tc := ⟨.hbm, 494, rfl⟩
abbrev main_v380 : Ref sig .tc := ⟨.hbm, 495, rfl⟩
abbrev main_v381 : Ref sig .tc := ⟨.hbm, 496, rfl⟩
abbrev main_c_61 : Ref sig .tc := ⟨.hbm, 497, rfl⟩
abbrev main_v382 : Ref sig .tc := ⟨.hbm, 498, rfl⟩
abbrev main_v383 : Ref sig .tc := ⟨.hbm, 499, rfl⟩
abbrev main_v384 : Ref sig .tc := ⟨.hbm, 500, rfl⟩
abbrev main_c_62 : Ref sig .tc := ⟨.hbm, 501, rfl⟩
abbrev main_v385 : Ref sig .tc := ⟨.hbm, 502, rfl⟩
abbrev main_v386 : Ref sig .tc := ⟨.hbm, 503, rfl⟩
abbrev main_c_63 : Ref sig .tc := ⟨.hbm, 504, rfl⟩
abbrev main_v387 : Ref sig .tc := ⟨.hbm, 505, rfl⟩
abbrev main_v388 : Ref sig .tc := ⟨.hbm, 506, rfl⟩
abbrev main_c_64 : Ref sig .tc := ⟨.hbm, 507, rfl⟩
abbrev main_v389 : Ref sig .tc := ⟨.hbm, 508, rfl⟩
abbrev main_v390 : Ref sig .tc := ⟨.hbm, 509, rfl⟩
abbrev main_c_65 : Ref sig .tc := ⟨.hbm, 510, rfl⟩
abbrev main_c_66 : Ref sig .tc := ⟨.hbm, 511, rfl⟩
abbrev main_call11_v0 : Ref sig .tc := ⟨.hbm, 512, rfl⟩
abbrev main_call11_v1 : Ref sig .tc := ⟨.hbm, 513, rfl⟩
abbrev main_call11_v2 : Ref sig .tc := ⟨.hbm, 514, rfl⟩
abbrev main_call11_v3 : Ref sig .tc := ⟨.hbm, 515, rfl⟩
abbrev main_call11_v4 : Ref sig .tc := ⟨.hbm, 516, rfl⟩
abbrev main_v391 : Ref sig .tc := ⟨.hbm, 517, rfl⟩
abbrev main_v392 : Ref sig .tc := ⟨.hbm, 518, rfl⟩
abbrev main_c_67 : Ref sig .tc := ⟨.hbm, 519, rfl⟩
abbrev main_v393 : Ref sig .tc := ⟨.hbm, 520, rfl⟩
abbrev main_v394 : Ref sig .tc := ⟨.hbm, 521, rfl⟩
abbrev main_v395 : Ref sig .tc := ⟨.hbm, 522, rfl⟩
abbrev main_v396 : Ref sig .tc := ⟨.hbm, 523, rfl⟩
abbrev main_v397 : Ref sig .tc := ⟨.hbm, 524, rfl⟩
abbrev main_call12_v0 : Ref sig .tc := ⟨.hbm, 525, rfl⟩
abbrev main_v398 : Ref sig .tc := ⟨.hbm, 526, rfl⟩
abbrev main_c_68 : Ref sig .tc := ⟨.hbm, 527, rfl⟩
abbrev main_v399 : Ref sig .tc := ⟨.hbm, 528, rfl⟩
abbrev main_v400 : Ref sig .tc := ⟨.hbm, 529, rfl⟩
abbrev main_c_69 : Ref sig .tc := ⟨.hbm, 530, rfl⟩
abbrev main_c_70 : Ref sig .tc := ⟨.hbm, 531, rfl⟩
abbrev main_call13_v0 : Ref sig .tc := ⟨.hbm, 532, rfl⟩
abbrev main_call13_v1 : Ref sig .tc := ⟨.hbm, 533, rfl⟩
abbrev main_call13_v2 : Ref sig .tc := ⟨.hbm, 534, rfl⟩
abbrev main_call13_v3 : Ref sig .tc := ⟨.hbm, 535, rfl⟩
abbrev main_call13_v4 : Ref sig .tc := ⟨.hbm, 536, rfl⟩
abbrev main_v401 : Ref sig .tc := ⟨.hbm, 537, rfl⟩
abbrev main_v402 : Ref sig .tc := ⟨.hbm, 538, rfl⟩
abbrev main_c_71 : Ref sig .tc := ⟨.hbm, 539, rfl⟩
abbrev main_v403 : Ref sig .tc := ⟨.hbm, 540, rfl⟩
abbrev main_v404 : Ref sig .tc := ⟨.hbm, 541, rfl⟩
abbrev main_v405 : Ref sig .tc := ⟨.hbm, 542, rfl⟩
abbrev main_v406 : Ref sig .tc := ⟨.hbm, 543, rfl⟩
abbrev main_v407 : Ref sig .tc := ⟨.hbm, 544, rfl⟩
abbrev main_c_72 : Ref sig .tc := ⟨.hbm, 545, rfl⟩
abbrev main_call14_v0 : Ref sig .tc := ⟨.hbm, 546, rfl⟩
abbrev main_call14_v1 : Ref sig .tc := ⟨.hbm, 547, rfl⟩
abbrev main_v408 : Ref sig .tc := ⟨.hbm, 548, rfl⟩
abbrev main_v409 : Ref sig .tc := ⟨.hbm, 549, rfl⟩
abbrev main_v410 : Ref sig .tc := ⟨.hbm, 550, rfl⟩
abbrev main_v411 : Ref sig .tc := ⟨.hbm, 551, rfl⟩
abbrev main_v412 : Ref sig .tc := ⟨.hbm, 552, rfl⟩
abbrev main_v413 : Ref sig .tc := ⟨.hbm, 553, rfl⟩
abbrev main_c_73 : Ref sig .tc := ⟨.hbm, 554, rfl⟩
abbrev main_c_74 : Ref sig .tc := ⟨.hbm, 555, rfl⟩
abbrev main_call15_v0 : Ref sig .tc := ⟨.hbm, 556, rfl⟩
abbrev main_call15_v1 : Ref sig .tc := ⟨.hbm, 557, rfl⟩
abbrev main_call15_v2 : Ref sig .tc := ⟨.hbm, 558, rfl⟩
abbrev main_call15_v3 : Ref sig .tc := ⟨.hbm, 559, rfl⟩
abbrev main_call15_v4 : Ref sig .tc := ⟨.hbm, 560, rfl⟩
abbrev main_v414 : Ref sig .tc := ⟨.hbm, 561, rfl⟩
abbrev main_v415 : Ref sig .tc := ⟨.hbm, 562, rfl⟩
abbrev main_v416 : Ref sig .tc := ⟨.hbm, 563, rfl⟩
abbrev main_v417 : Ref sig .tc := ⟨.hbm, 564, rfl⟩
abbrev main_v418 : Ref sig .tc := ⟨.hbm, 565, rfl⟩
abbrev main_c_75 : Ref sig .tc := ⟨.hbm, 566, rfl⟩
abbrev main_v419 : Ref sig .tc := ⟨.hbm, 567, rfl⟩
abbrev main_v420 : Ref sig .tc := ⟨.hbm, 568, rfl⟩
abbrev main_c_76 : Ref sig .tc := ⟨.hbm, 569, rfl⟩
abbrev main_c_77 : Ref sig .tc := ⟨.hbm, 570, rfl⟩
abbrev main_call16_v0 : Ref sig .tc := ⟨.hbm, 571, rfl⟩
abbrev main_call16_v1 : Ref sig .tc := ⟨.hbm, 572, rfl⟩
abbrev main_call16_v2 : Ref sig .tc := ⟨.hbm, 573, rfl⟩
abbrev main_call16_v3 : Ref sig .tc := ⟨.hbm, 574, rfl⟩
abbrev main_call16_v4 : Ref sig .tc := ⟨.hbm, 575, rfl⟩
abbrev main_v421 : Ref sig .tc := ⟨.hbm, 576, rfl⟩
abbrev main_v422 : Ref sig .tc := ⟨.hbm, 577, rfl⟩
abbrev main_v423 : Ref sig .tc := ⟨.hbm, 578, rfl⟩
abbrev main_v424 : Ref sig .tc := ⟨.hbm, 579, rfl⟩
abbrev main_v425 : Ref sig .tc := ⟨.hbm, 580, rfl⟩
abbrev main_v426 : Ref sig .tc := ⟨.hbm, 581, rfl⟩
abbrev main_c_78 : Ref sig .tc := ⟨.hbm, 582, rfl⟩
abbrev main_v427 : Ref sig .tc := ⟨.hbm, 583, rfl⟩
abbrev main_v428 : Ref sig .tc := ⟨.hbm, 584, rfl⟩
abbrev main_c_79 : Ref sig .tc := ⟨.hbm, 585, rfl⟩
abbrev main_c_80 : Ref sig .tc := ⟨.hbm, 586, rfl⟩
abbrev main_call17_v0 : Ref sig .tc := ⟨.hbm, 587, rfl⟩
abbrev main_call17_v1 : Ref sig .tc := ⟨.hbm, 588, rfl⟩
abbrev main_call17_v2 : Ref sig .tc := ⟨.hbm, 589, rfl⟩
abbrev main_call17_v3 : Ref sig .tc := ⟨.hbm, 590, rfl⟩
abbrev main_call17_v4 : Ref sig .tc := ⟨.hbm, 591, rfl⟩
abbrev main_v429 : Ref sig .tc := ⟨.hbm, 592, rfl⟩
abbrev main_v430 : Ref sig .tc := ⟨.hbm, 593, rfl⟩
abbrev main_v431 : Ref sig .tc := ⟨.hbm, 594, rfl⟩
abbrev main_v432 : Ref sig .tc := ⟨.hbm, 595, rfl⟩
abbrev main_v433 : Ref sig .tc := ⟨.hbm, 596, rfl⟩
abbrev main_c_81 : Ref sig .tc := ⟨.hbm, 597, rfl⟩
abbrev main_v434 : Ref sig .tc := ⟨.hbm, 598, rfl⟩
abbrev main_v435 : Ref sig .tc := ⟨.hbm, 599, rfl⟩
abbrev main_call18_v0 : Ref sig .tc := ⟨.hbm, 600, rfl⟩
abbrev main_v436 : Ref sig .tc := ⟨.hbm, 601, rfl⟩
abbrev main_v437 : Ref sig .tc := ⟨.hbm, 602, rfl⟩
abbrev main_v438 : Ref sig .tc := ⟨.hbm, 603, rfl⟩
abbrev main_v439 : Ref sig .tc := ⟨.hbm, 604, rfl⟩
abbrev main_v440 : Ref sig .tc := ⟨.hbm, 605, rfl⟩
abbrev main_v441 : Ref sig .tc := ⟨.hbm, 606, rfl⟩
abbrev main_c_82 : Ref sig .tc := ⟨.hbm, 607, rfl⟩
abbrev main_call20_v0 : Ref sig .tc := ⟨.hbm, 608, rfl⟩
abbrev main_call20_v1 : Ref sig .tc := ⟨.hbm, 609, rfl⟩
abbrev main_call20_v2 : Ref sig .tc := ⟨.hbm, 610, rfl⟩
abbrev main_call20_v3 : Ref sig .tc := ⟨.hbm, 611, rfl⟩
abbrev main_v442 : Ref sig .tc := ⟨.hbm, 612, rfl⟩
abbrev main_v443 : Ref sig .tc := ⟨.hbm, 613, rfl⟩
abbrev main_v444 : Ref sig .tc := ⟨.hbm, 614, rfl⟩
abbrev main_v445 : Ref sig .tc := ⟨.hbm, 615, rfl⟩
abbrev main_v446 : Ref sig .tc := ⟨.hbm, 616, rfl⟩
abbrev main_v447 : Ref sig .tc := ⟨.hbm, 617, rfl⟩
abbrev main_v448 : Ref sig .tc := ⟨.hbm, 618, rfl⟩
abbrev main_v449 : Ref sig .tc := ⟨.hbm, 619, rfl⟩
abbrev main_v450 : Ref sig .tc := ⟨.hbm, 620, rfl⟩
abbrev main_c_83 : Ref sig .tc := ⟨.hbm, 621, rfl⟩
abbrev main_v451 : Ref sig .tc := ⟨.hbm, 622, rfl⟩
abbrev main_v452 : Ref sig .tc := ⟨.hbm, 623, rfl⟩
abbrev main_c_84 : Ref sig .tc := ⟨.hbm, 624, rfl⟩
abbrev main_v453 : Ref sig .tc := ⟨.hbm, 625, rfl⟩
abbrev main_v454 : Ref sig .tc := ⟨.hbm, 626, rfl⟩
abbrev main_v455 : Ref sig .tc := ⟨.hbm, 627, rfl⟩
abbrev main_v456 : Ref sig .tc := ⟨.hbm, 628, rfl⟩
abbrev main_v457 : Ref sig .tc := ⟨.hbm, 629, rfl⟩
abbrev main_v458 : Ref sig .tc := ⟨.hbm, 630, rfl⟩
abbrev main_v459 : Ref sig .tc := ⟨.hbm, 631, rfl⟩
abbrev main_v460 : Ref sig .tc := ⟨.hbm, 632, rfl⟩
abbrev main_v461 : Ref sig .tc := ⟨.hbm, 633, rfl⟩
abbrev main_c_85 : Ref sig .tc := ⟨.hbm, 634, rfl⟩
abbrev main_v462 : Ref sig .tc := ⟨.hbm, 635, rfl⟩
abbrev main_v463 : Ref sig .tc := ⟨.hbm, 636, rfl⟩
abbrev main_v464 : Ref sig .tc := ⟨.hbm, 637, rfl⟩
abbrev main_v465 : Ref sig .tc := ⟨.hbm, 638, rfl⟩
abbrev main_v466 : Ref sig .tc := ⟨.hbm, 639, rfl⟩
abbrev main_v467 : Ref sig .tc := ⟨.hbm, 640, rfl⟩
abbrev main_c_86 : Ref sig .tc := ⟨.hbm, 641, rfl⟩
abbrev main_v468 : Ref sig .tc := ⟨.hbm, 642, rfl⟩
abbrev main_v469 : Ref sig .tc := ⟨.hbm, 643, rfl⟩
abbrev main_c_87 : Ref sig .tc := ⟨.hbm, 644, rfl⟩
abbrev main_v470 : Ref sig .tc := ⟨.hbm, 645, rfl⟩
abbrev main_v471 : Ref sig .tc := ⟨.hbm, 646, rfl⟩
abbrev main_c_88 : Ref sig .tc := ⟨.hbm, 647, rfl⟩
abbrev main_v472 : Ref sig .tc := ⟨.hbm, 648, rfl⟩
abbrev main_v473 : Ref sig .tc := ⟨.hbm, 649, rfl⟩
abbrev main_c_89 : Ref sig .tc := ⟨.hbm, 650, rfl⟩
abbrev main_v474 : Ref sig .tc := ⟨.hbm, 651, rfl⟩
abbrev main_v475 : Ref sig .tc := ⟨.hbm, 652, rfl⟩
abbrev main_v476 : Ref sig .tc := ⟨.hbm, 653, rfl⟩
abbrev main_v477 : Ref sig .tc := ⟨.hbm, 654, rfl⟩
abbrev main_v478 : Ref sig .tc := ⟨.hbm, 655, rfl⟩
abbrev main_v479 : Ref sig .tc := ⟨.hbm, 656, rfl⟩
abbrev main_v480 : Ref sig .tc := ⟨.hbm, 657, rfl⟩
abbrev main_v481 : Ref sig .tc := ⟨.hbm, 658, rfl⟩
abbrev main_v482 : Ref sig .tc := ⟨.hbm, 659, rfl⟩
abbrev main_v483 : Ref sig .tc := ⟨.hbm, 660, rfl⟩
abbrev main_v484 : Ref sig .tc := ⟨.hbm, 661, rfl⟩
abbrev main_v485 : Ref sig .tc := ⟨.hbm, 662, rfl⟩
abbrev main_v486 : Ref sig .tc := ⟨.hbm, 663, rfl⟩
abbrev main_v487 : Ref sig .tc := ⟨.hbm, 664, rfl⟩
abbrev main_c_90 : Ref sig .tc := ⟨.hbm, 665, rfl⟩
abbrev main_v488 : Ref sig .tc := ⟨.hbm, 666, rfl⟩
abbrev main_v489 : Ref sig .tc := ⟨.hbm, 667, rfl⟩
abbrev main_c_91 : Ref sig .tc := ⟨.hbm, 668, rfl⟩
abbrev main_v490 : Ref sig .tc := ⟨.hbm, 669, rfl⟩
abbrev main_v491 : Ref sig .tc := ⟨.hbm, 670, rfl⟩
abbrev main_v492 : Ref sig .tc := ⟨.hbm, 671, rfl⟩
abbrev main_c_92 : Ref sig .tc := ⟨.hbm, 672, rfl⟩
abbrev main_v493 : Ref sig .tc := ⟨.hbm, 673, rfl⟩
abbrev main_v494 : Ref sig .tc := ⟨.hbm, 674, rfl⟩
abbrev main_v495 : Ref sig .tc := ⟨.hbm, 675, rfl⟩
abbrev main_c_93 : Ref sig .tc := ⟨.hbm, 676, rfl⟩
abbrev main_v496 : Ref sig .tc := ⟨.hbm, 677, rfl⟩
abbrev main_v497 : Ref sig .tc := ⟨.hbm, 678, rfl⟩
abbrev main_c_94 : Ref sig .tc := ⟨.hbm, 679, rfl⟩
abbrev main_v498 : Ref sig .tc := ⟨.hbm, 680, rfl⟩
abbrev main_v499 : Ref sig .tc := ⟨.hbm, 681, rfl⟩
abbrev main_v500 : Ref sig .tc := ⟨.hbm, 682, rfl⟩
abbrev main_c_95 : Ref sig .tc := ⟨.hbm, 683, rfl⟩
abbrev main_v501 : Ref sig .tc := ⟨.hbm, 684, rfl⟩
abbrev main_v502 : Ref sig .tc := ⟨.hbm, 685, rfl⟩
abbrev main_v503 : Ref sig .tc := ⟨.hbm, 686, rfl⟩
abbrev main_c_96 : Ref sig .tc := ⟨.hbm, 687, rfl⟩
abbrev main_v504 : Ref sig .tc := ⟨.hbm, 688, rfl⟩
abbrev main_v505 : Ref sig .tc := ⟨.hbm, 689, rfl⟩
abbrev main_v506 : Ref sig .tc := ⟨.hbm, 690, rfl⟩
abbrev main_c_97 : Ref sig .tc := ⟨.hbm, 691, rfl⟩
abbrev main_v507 : Ref sig .tc := ⟨.hbm, 692, rfl⟩
abbrev main_v508 : Ref sig .tc := ⟨.hbm, 693, rfl⟩
abbrev main_c_98 : Ref sig .tc := ⟨.hbm, 694, rfl⟩
abbrev main_v509 : Ref sig .tc := ⟨.hbm, 695, rfl⟩
abbrev main_v510 : Ref sig .tc := ⟨.hbm, 696, rfl⟩
abbrev main_v511 : Ref sig .tc := ⟨.hbm, 697, rfl⟩
abbrev main_c_99 : Ref sig .tc := ⟨.hbm, 698, rfl⟩
abbrev main_v512 : Ref sig .tc := ⟨.hbm, 699, rfl⟩
abbrev main_v513 : Ref sig .tc := ⟨.hbm, 700, rfl⟩
abbrev main_c_100 : Ref sig .tc := ⟨.hbm, 701, rfl⟩
abbrev main_v514 : Ref sig .tc := ⟨.hbm, 702, rfl⟩
abbrev main_v515 : Ref sig .tc := ⟨.hbm, 703, rfl⟩
abbrev main_c_101 : Ref sig .tc := ⟨.hbm, 704, rfl⟩
abbrev main_v516 : Ref sig .tc := ⟨.hbm, 705, rfl⟩
abbrev main_v517 : Ref sig .tc := ⟨.hbm, 706, rfl⟩
abbrev main_v518 : Ref sig .tc := ⟨.hbm, 707, rfl⟩
abbrev main_c_102 : Ref sig .tc := ⟨.hbm, 708, rfl⟩
abbrev main_v519 : Ref sig .tc := ⟨.hbm, 709, rfl⟩
abbrev main_v520 : Ref sig .tc := ⟨.hbm, 710, rfl⟩
abbrev main_c_103 : Ref sig .tc := ⟨.hbm, 711, rfl⟩
abbrev main_v521 : Ref sig .tc := ⟨.hbm, 712, rfl⟩
abbrev main_v522 : Ref sig .tc := ⟨.hbm, 713, rfl⟩
abbrev main_v523 : Ref sig .tc := ⟨.hbm, 714, rfl⟩
abbrev main_c_104 : Ref sig .tc := ⟨.hbm, 715, rfl⟩
abbrev main_v524 : Ref sig .tc := ⟨.hbm, 716, rfl⟩
abbrev main_v525 : Ref sig .tc := ⟨.hbm, 717, rfl⟩
abbrev main_c_105 : Ref sig .tc := ⟨.hbm, 718, rfl⟩
abbrev main_v526 : Ref sig .tc := ⟨.hbm, 719, rfl⟩
abbrev main_v527 : Ref sig .tc := ⟨.hbm, 720, rfl⟩
abbrev main_c_106 : Ref sig .tc := ⟨.hbm, 721, rfl⟩
abbrev main_v528 : Ref sig .tc := ⟨.hbm, 722, rfl⟩
abbrev main_v529 : Ref sig .tc := ⟨.hbm, 723, rfl⟩
abbrev main_c_107 : Ref sig .tc := ⟨.hbm, 724, rfl⟩
abbrev main_c_108 : Ref sig .tc := ⟨.hbm, 725, rfl⟩
abbrev main_call21_v0 : Ref sig .tc := ⟨.hbm, 726, rfl⟩
abbrev main_call21_v1 : Ref sig .tc := ⟨.hbm, 727, rfl⟩
abbrev main_call21_v2 : Ref sig .tc := ⟨.hbm, 728, rfl⟩
abbrev main_call21_v3 : Ref sig .tc := ⟨.hbm, 729, rfl⟩
abbrev main_call21_v4 : Ref sig .tc := ⟨.hbm, 730, rfl⟩
abbrev main_v530 : Ref sig .tc := ⟨.hbm, 731, rfl⟩
abbrev main_v531 : Ref sig .tc := ⟨.hbm, 732, rfl⟩
abbrev main_c_109 : Ref sig .tc := ⟨.hbm, 733, rfl⟩
abbrev main_v532 : Ref sig .tc := ⟨.hbm, 734, rfl⟩
abbrev main_v533 : Ref sig .tc := ⟨.hbm, 735, rfl⟩
abbrev main_v534 : Ref sig .tc := ⟨.hbm, 736, rfl⟩
abbrev main_v535 : Ref sig .tc := ⟨.hbm, 737, rfl⟩
abbrev main_v536 : Ref sig .tc := ⟨.hbm, 738, rfl⟩
abbrev main_call22_v0 : Ref sig .tc := ⟨.hbm, 739, rfl⟩
abbrev main_v537 : Ref sig .tc := ⟨.hbm, 740, rfl⟩
abbrev main_c_110 : Ref sig .tc := ⟨.hbm, 741, rfl⟩
abbrev main_v538 : Ref sig .tc := ⟨.hbm, 742, rfl⟩
abbrev main_v539 : Ref sig .tc := ⟨.hbm, 743, rfl⟩
abbrev main_c_111 : Ref sig .tc := ⟨.hbm, 744, rfl⟩
abbrev main_c_112 : Ref sig .tc := ⟨.hbm, 745, rfl⟩
abbrev main_call23_v0 : Ref sig .tc := ⟨.hbm, 746, rfl⟩
abbrev main_call23_v1 : Ref sig .tc := ⟨.hbm, 747, rfl⟩
abbrev main_call23_v2 : Ref sig .tc := ⟨.hbm, 748, rfl⟩
abbrev main_call23_v3 : Ref sig .tc := ⟨.hbm, 749, rfl⟩
abbrev main_call23_v4 : Ref sig .tc := ⟨.hbm, 750, rfl⟩
abbrev main_v540 : Ref sig .tc := ⟨.hbm, 751, rfl⟩
abbrev main_v541 : Ref sig .tc := ⟨.hbm, 752, rfl⟩
abbrev main_c_113 : Ref sig .tc := ⟨.hbm, 753, rfl⟩
abbrev main_v542 : Ref sig .tc := ⟨.hbm, 754, rfl⟩
abbrev main_v543 : Ref sig .tc := ⟨.hbm, 755, rfl⟩
abbrev main_v544 : Ref sig .tc := ⟨.hbm, 756, rfl⟩
abbrev main_v545 : Ref sig .tc := ⟨.hbm, 757, rfl⟩
abbrev main_v546 : Ref sig .tc := ⟨.hbm, 758, rfl⟩
abbrev main_c_114 : Ref sig .tc := ⟨.hbm, 759, rfl⟩
abbrev main_call24_v0 : Ref sig .tc := ⟨.hbm, 760, rfl⟩
abbrev main_call24_v1 : Ref sig .tc := ⟨.hbm, 761, rfl⟩
abbrev main_v547 : Ref sig .tc := ⟨.hbm, 762, rfl⟩
abbrev main_v548 : Ref sig .tc := ⟨.hbm, 763, rfl⟩
abbrev main_v549 : Ref sig .tc := ⟨.hbm, 764, rfl⟩
abbrev main_v550 : Ref sig .tc := ⟨.hbm, 765, rfl⟩
abbrev main_v551 : Ref sig .tc := ⟨.hbm, 766, rfl⟩
abbrev main_v552 : Ref sig .tc := ⟨.hbm, 767, rfl⟩
abbrev main_c_115 : Ref sig .tc := ⟨.hbm, 768, rfl⟩
abbrev main_c_116 : Ref sig .tc := ⟨.hbm, 769, rfl⟩
abbrev main_call25_v0 : Ref sig .tc := ⟨.hbm, 770, rfl⟩
abbrev main_call25_v1 : Ref sig .tc := ⟨.hbm, 771, rfl⟩
abbrev main_call25_v2 : Ref sig .tc := ⟨.hbm, 772, rfl⟩
abbrev main_call25_v3 : Ref sig .tc := ⟨.hbm, 773, rfl⟩
abbrev main_call25_v4 : Ref sig .tc := ⟨.hbm, 774, rfl⟩
abbrev main_v553 : Ref sig .tc := ⟨.hbm, 775, rfl⟩
abbrev main_v554 : Ref sig .tc := ⟨.hbm, 776, rfl⟩
abbrev main_v555 : Ref sig .tc := ⟨.hbm, 777, rfl⟩
abbrev main_v556 : Ref sig .tc := ⟨.hbm, 778, rfl⟩
abbrev main_v557 : Ref sig .tc := ⟨.hbm, 779, rfl⟩
abbrev main_c_117 : Ref sig .tc := ⟨.hbm, 780, rfl⟩
abbrev main_v558 : Ref sig .tc := ⟨.hbm, 781, rfl⟩
abbrev main_v559 : Ref sig .tc := ⟨.hbm, 782, rfl⟩
abbrev main_c_118 : Ref sig .tc := ⟨.hbm, 783, rfl⟩
abbrev main_c_119 : Ref sig .tc := ⟨.hbm, 784, rfl⟩
abbrev main_call26_v0 : Ref sig .tc := ⟨.hbm, 785, rfl⟩
abbrev main_call26_v1 : Ref sig .tc := ⟨.hbm, 786, rfl⟩
abbrev main_call26_v2 : Ref sig .tc := ⟨.hbm, 787, rfl⟩
abbrev main_call26_v3 : Ref sig .tc := ⟨.hbm, 788, rfl⟩
abbrev main_call26_v4 : Ref sig .tc := ⟨.hbm, 789, rfl⟩
abbrev main_v560 : Ref sig .tc := ⟨.hbm, 790, rfl⟩
abbrev main_v561 : Ref sig .tc := ⟨.hbm, 791, rfl⟩
abbrev main_v562 : Ref sig .tc := ⟨.hbm, 792, rfl⟩
abbrev main_v563 : Ref sig .tc := ⟨.hbm, 793, rfl⟩
abbrev main_v564 : Ref sig .tc := ⟨.hbm, 794, rfl⟩
abbrev main_v565 : Ref sig .tc := ⟨.hbm, 795, rfl⟩
abbrev main_c_120 : Ref sig .tc := ⟨.hbm, 796, rfl⟩
abbrev main_v566 : Ref sig .tc := ⟨.hbm, 797, rfl⟩
abbrev main_v567 : Ref sig .tc := ⟨.hbm, 798, rfl⟩
abbrev main_c_121 : Ref sig .tc := ⟨.hbm, 799, rfl⟩
abbrev main_c_122 : Ref sig .tc := ⟨.hbm, 800, rfl⟩
abbrev main_call27_v0 : Ref sig .tc := ⟨.hbm, 801, rfl⟩
abbrev main_call27_v1 : Ref sig .tc := ⟨.hbm, 802, rfl⟩
abbrev main_call27_v2 : Ref sig .tc := ⟨.hbm, 803, rfl⟩
abbrev main_call27_v3 : Ref sig .tc := ⟨.hbm, 804, rfl⟩
abbrev main_call27_v4 : Ref sig .tc := ⟨.hbm, 805, rfl⟩
abbrev main_v568 : Ref sig .tc := ⟨.hbm, 806, rfl⟩
abbrev main_v569 : Ref sig .tc := ⟨.hbm, 807, rfl⟩
abbrev main_v570 : Ref sig .tc := ⟨.hbm, 808, rfl⟩
abbrev main_v571 : Ref sig .tc := ⟨.hbm, 809, rfl⟩
abbrev main_v572 : Ref sig .tc := ⟨.hbm, 810, rfl⟩
abbrev main_c_123 : Ref sig .tc := ⟨.hbm, 811, rfl⟩
abbrev main_v573 : Ref sig .tc := ⟨.hbm, 812, rfl⟩
abbrev main_v574 : Ref sig .tc := ⟨.hbm, 813, rfl⟩
abbrev main_call28_v0 : Ref sig .tc := ⟨.hbm, 814, rfl⟩
abbrev main_v575 : Ref sig .tc := ⟨.hbm, 815, rfl⟩
abbrev main_v576 : Ref sig .tc := ⟨.hbm, 816, rfl⟩
abbrev main_v577 : Ref sig .tc := ⟨.hbm, 817, rfl⟩
abbrev main_v578 : Ref sig .tc := ⟨.hbm, 818, rfl⟩
abbrev main_v579 : Ref sig .tc := ⟨.hbm, 819, rfl⟩
abbrev main_v580 : Ref sig .tc := ⟨.hbm, 820, rfl⟩
abbrev main_c_124 : Ref sig .tc := ⟨.hbm, 821, rfl⟩
abbrev main_c_125 : Ref sig .tc := ⟨.hbm, 822, rfl⟩
abbrev main_call30_v0 : Ref sig .tc := ⟨.hbm, 823, rfl⟩
abbrev main_call30_v1 : Ref sig .tc := ⟨.hbm, 824, rfl⟩
abbrev main_call30_v2 : Ref sig .tc := ⟨.hbm, 825, rfl⟩
abbrev main_call30_v3 : Ref sig .tc := ⟨.hbm, 826, rfl⟩
abbrev main_call30_v4 : Ref sig .tc := ⟨.hbm, 827, rfl⟩
abbrev main_v581 : Ref sig .tc := ⟨.hbm, 828, rfl⟩
abbrev main_v582 : Ref sig .tc := ⟨.hbm, 829, rfl⟩
abbrev main_v583 : Ref sig .tc := ⟨.hbm, 830, rfl⟩
abbrev main_v584 : Ref sig .tc := ⟨.hbm, 831, rfl⟩
abbrev main_v585 : Ref sig .tc := ⟨.hbm, 832, rfl⟩
abbrev main_c_126 : Ref sig .tc := ⟨.hbm, 833, rfl⟩
abbrev main_v586 : Ref sig .tc := ⟨.hbm, 834, rfl⟩
abbrev main_v587 : Ref sig .tc := ⟨.hbm, 835, rfl⟩
abbrev main_v588 : Ref sig .tc := ⟨.hbm, 836, rfl⟩
abbrev main_v589 : Ref sig .tc := ⟨.hbm, 837, rfl⟩
abbrev main_v590 : Ref sig .tc := ⟨.hbm, 838, rfl⟩
abbrev main_v591 : Ref sig .tc := ⟨.hbm, 839, rfl⟩
abbrev main_c_127 : Ref sig .tc := ⟨.hbm, 840, rfl⟩
abbrev main_v592 : Ref sig .tc := ⟨.hbm, 841, rfl⟩
abbrev main_v593 : Ref sig .tc := ⟨.hbm, 842, rfl⟩
abbrev main_v594 : Ref sig .tc := ⟨.hbm, 843, rfl⟩
abbrev main_v595 : Ref sig .tc := ⟨.hbm, 844, rfl⟩
abbrev main_v596 : Ref sig .tc := ⟨.hbm, 845, rfl⟩
abbrev main_v597 : Ref sig .tc := ⟨.hbm, 846, rfl⟩
abbrev main_c_128 : Ref sig .tc := ⟨.hbm, 847, rfl⟩
abbrev main_v598 : Ref sig .tc := ⟨.hbm, 848, rfl⟩
abbrev main_v599 : Ref sig .tc := ⟨.hbm, 849, rfl⟩
abbrev main_c_129 : Ref sig .tc := ⟨.hbm, 850, rfl⟩
abbrev main_v600 : Ref sig .tc := ⟨.hbm, 851, rfl⟩
abbrev main_v601 : Ref sig .tc := ⟨.hbm, 852, rfl⟩
abbrev main_c_130 : Ref sig .tc := ⟨.hbm, 853, rfl⟩
abbrev main_v602 : Ref sig .tc := ⟨.hbm, 854, rfl⟩
abbrev main_c_131 : Ref sig .tc := ⟨.hbm, 855, rfl⟩
abbrev main_v603 : Ref sig .tc := ⟨.hbm, 856, rfl⟩
abbrev main_v604 : Ref sig .tc := ⟨.hbm, 857, rfl⟩
abbrev main_v605 : Ref sig .tc := ⟨.hbm, 858, rfl⟩
abbrev main_v606 : Ref sig .tc := ⟨.hbm, 859, rfl⟩
abbrev main_v607 : Ref sig .tc := ⟨.hbm, 860, rfl⟩
abbrev main_v608 : Ref sig .tc := ⟨.hbm, 861, rfl⟩
abbrev main_v609 : Ref sig .tc := ⟨.hbm, 862, rfl⟩
abbrev main_v610 : Ref sig .tc := ⟨.hbm, 863, rfl⟩
abbrev main_v611 : Ref sig .tc := ⟨.hbm, 864, rfl⟩
abbrev main_c_132 : Ref sig .tc := ⟨.hbm, 865, rfl⟩
abbrev main_v612 : Ref sig .tc := ⟨.hbm, 866, rfl⟩
abbrev main_v613 : Ref sig .tc := ⟨.hbm, 867, rfl⟩
abbrev main_c_133 : Ref sig .tc := ⟨.hbm, 868, rfl⟩
abbrev main_v614 : Ref sig .tc := ⟨.hbm, 869, rfl⟩
abbrev main_v615 : Ref sig .tc := ⟨.hbm, 870, rfl⟩
abbrev main_v616 : Ref sig .tc := ⟨.hbm, 871, rfl⟩
abbrev main_c_134 : Ref sig .tc := ⟨.hbm, 872, rfl⟩
abbrev main_v617 : Ref sig .tc := ⟨.hbm, 873, rfl⟩
abbrev main_v618 : Ref sig .tc := ⟨.hbm, 874, rfl⟩
abbrev main_v619 : Ref sig .tc := ⟨.hbm, 875, rfl⟩
abbrev main_c_135 : Ref sig .tc := ⟨.hbm, 876, rfl⟩
abbrev main_v620 : Ref sig .tc := ⟨.hbm, 877, rfl⟩
abbrev main_v621 : Ref sig .tc := ⟨.hbm, 878, rfl⟩
abbrev main_c_136 : Ref sig .tc := ⟨.hbm, 879, rfl⟩
abbrev main_v622 : Ref sig .tc := ⟨.hbm, 880, rfl⟩
abbrev main_v623 : Ref sig .tc := ⟨.hbm, 881, rfl⟩
abbrev main_v624 : Ref sig .tc := ⟨.hbm, 882, rfl⟩
abbrev main_c_137 : Ref sig .tc := ⟨.hbm, 883, rfl⟩
abbrev main_v625 : Ref sig .tc := ⟨.hbm, 884, rfl⟩
abbrev main_v626 : Ref sig .tc := ⟨.hbm, 885, rfl⟩
abbrev main_v627 : Ref sig .tc := ⟨.hbm, 886, rfl⟩
abbrev main_c_138 : Ref sig .tc := ⟨.hbm, 887, rfl⟩
abbrev main_v628 : Ref sig .tc := ⟨.hbm, 888, rfl⟩
abbrev main_v629 : Ref sig .tc := ⟨.hbm, 889, rfl⟩
abbrev main_v630 : Ref sig .tc := ⟨.hbm, 890, rfl⟩
abbrev main_c_139 : Ref sig .tc := ⟨.hbm, 891, rfl⟩
abbrev main_v631 : Ref sig .tc := ⟨.hbm, 892, rfl⟩
abbrev main_v632 : Ref sig .tc := ⟨.hbm, 893, rfl⟩
abbrev main_c_140 : Ref sig .tc := ⟨.hbm, 894, rfl⟩
abbrev main_v633 : Ref sig .tc := ⟨.hbm, 895, rfl⟩
abbrev main_v634 : Ref sig .tc := ⟨.hbm, 896, rfl⟩
abbrev main_v635 : Ref sig .tc := ⟨.hbm, 897, rfl⟩
abbrev main_c_141 : Ref sig .tc := ⟨.hbm, 898, rfl⟩
abbrev main_v636 : Ref sig .tc := ⟨.hbm, 899, rfl⟩
abbrev main_v637 : Ref sig .tc := ⟨.hbm, 900, rfl⟩
abbrev main_c_142 : Ref sig .tc := ⟨.hbm, 901, rfl⟩
abbrev main_v638 : Ref sig .tc := ⟨.hbm, 902, rfl⟩
abbrev main_v639 : Ref sig .tc := ⟨.hbm, 903, rfl⟩
abbrev main_c_143 : Ref sig .tc := ⟨.hbm, 904, rfl⟩
abbrev main_v640 : Ref sig .tc := ⟨.hbm, 905, rfl⟩
abbrev main_v641 : Ref sig .tc := ⟨.hbm, 906, rfl⟩
abbrev main_v642 : Ref sig .tc := ⟨.hbm, 907, rfl⟩
abbrev main_c_144 : Ref sig .tc := ⟨.hbm, 908, rfl⟩
abbrev main_v643 : Ref sig .tc := ⟨.hbm, 909, rfl⟩
abbrev main_v644 : Ref sig .tc := ⟨.hbm, 910, rfl⟩
abbrev main_c_145 : Ref sig .tc := ⟨.hbm, 911, rfl⟩
abbrev main_v645 : Ref sig .tc := ⟨.hbm, 912, rfl⟩
abbrev main_v646 : Ref sig .tc := ⟨.hbm, 913, rfl⟩
abbrev main_v647 : Ref sig .tc := ⟨.hbm, 914, rfl⟩
abbrev main_c_146 : Ref sig .tc := ⟨.hbm, 915, rfl⟩
abbrev main_v648 : Ref sig .tc := ⟨.hbm, 916, rfl⟩
abbrev main_c_147 : Ref sig .tc := ⟨.hbm, 917, rfl⟩
abbrev main_v649 : Ref sig .tc := ⟨.hbm, 918, rfl⟩
abbrev main_v650 : Ref sig .tc := ⟨.hbm, 919, rfl⟩
abbrev main_c_148 : Ref sig .tc := ⟨.hbm, 920, rfl⟩
abbrev main_v651 : Ref sig .tc := ⟨.hbm, 921, rfl⟩
abbrev main_c_149 : Ref sig .tc := ⟨.hbm, 922, rfl⟩
abbrev main_c_150 : Ref sig .tc := ⟨.hbm, 923, rfl⟩
abbrev main_call31_v0 : Ref sig .tc := ⟨.hbm, 924, rfl⟩
abbrev main_call31_v1 : Ref sig .tc := ⟨.hbm, 925, rfl⟩
abbrev main_call31_v2 : Ref sig .tc := ⟨.hbm, 926, rfl⟩
abbrev main_v652 : Ref sig .tc := ⟨.hbm, 927, rfl⟩
abbrev main_v653 : Ref sig .tc := ⟨.hbm, 928, rfl⟩
abbrev main_c_151 : Ref sig .tc := ⟨.hbm, 929, rfl⟩
abbrev main_v654 : Ref sig .tc := ⟨.hbm, 930, rfl⟩
abbrev main_v655 : Ref sig .tc := ⟨.hbm, 931, rfl⟩
abbrev main_v656 : Ref sig .tc := ⟨.hbm, 932, rfl⟩
abbrev main_v657 : Ref sig .tc := ⟨.hbm, 933, rfl⟩
abbrev main_c_152 : Ref sig .tc := ⟨.hbm, 934, rfl⟩
abbrev main_v658 : Ref sig .tc := ⟨.hbm, 935, rfl⟩
abbrev main_c_153 : Ref sig .tc := ⟨.hbm, 936, rfl⟩
abbrev main_c_154 : Ref sig .tc := ⟨.hbm, 937, rfl⟩
abbrev main_call33_v0 : Ref sig .tc := ⟨.hbm, 938, rfl⟩
abbrev main_call33_v1 : Ref sig .tc := ⟨.hbm, 939, rfl⟩
abbrev main_call33_v2 : Ref sig .tc := ⟨.hbm, 940, rfl⟩
abbrev main_v659 : Ref sig .tc := ⟨.hbm, 941, rfl⟩
abbrev main_v660 : Ref sig .tc := ⟨.hbm, 942, rfl⟩
abbrev main_c_155 : Ref sig .tc := ⟨.hbm, 943, rfl⟩
abbrev main_v661 : Ref sig .tc := ⟨.hbm, 944, rfl⟩
abbrev main_v662 : Ref sig .tc := ⟨.hbm, 945, rfl⟩
abbrev main_v663 : Ref sig .tc := ⟨.hbm, 946, rfl⟩
abbrev main_c_156 : Ref sig .tc := ⟨.hbm, 947, rfl⟩
abbrev main_call34_v0 : Ref sig .tc := ⟨.hbm, 948, rfl⟩
abbrev main_v664 : Ref sig .tc := ⟨.hbm, 949, rfl⟩
abbrev main_v665 : Ref sig .tc := ⟨.hbm, 950, rfl⟩
abbrev main_v666 : Ref sig .tc := ⟨.hbm, 951, rfl⟩
abbrev main_v667 : Ref sig .tc := ⟨.hbm, 952, rfl⟩
abbrev main_v668 : Ref sig .tc := ⟨.hbm, 953, rfl⟩
abbrev main_v669 : Ref sig .tc := ⟨.hbm, 954, rfl⟩
abbrev main_c_157 : Ref sig .tc := ⟨.hbm, 955, rfl⟩
abbrev main_c_158 : Ref sig .tc := ⟨.hbm, 956, rfl⟩
abbrev main_call35_v0 : Ref sig .tc := ⟨.hbm, 957, rfl⟩
abbrev main_call35_v1 : Ref sig .tc := ⟨.hbm, 958, rfl⟩
abbrev main_call35_v2 : Ref sig .tc := ⟨.hbm, 959, rfl⟩
abbrev main_v670 : Ref sig .tc := ⟨.hbm, 960, rfl⟩
abbrev main_v671 : Ref sig .tc := ⟨.hbm, 961, rfl⟩
abbrev main_v672 : Ref sig .tc := ⟨.hbm, 962, rfl⟩
abbrev main_v673 : Ref sig .tc := ⟨.hbm, 963, rfl⟩
abbrev main_c_159 : Ref sig .tc := ⟨.hbm, 964, rfl⟩
abbrev main_v674 : Ref sig .tc := ⟨.hbm, 965, rfl⟩
abbrev main_c_160 : Ref sig .tc := ⟨.hbm, 966, rfl⟩
abbrev main_c_161 : Ref sig .tc := ⟨.hbm, 967, rfl⟩
abbrev main_call36_v0 : Ref sig .tc := ⟨.hbm, 968, rfl⟩
abbrev main_call36_v1 : Ref sig .tc := ⟨.hbm, 969, rfl⟩
abbrev main_call36_v2 : Ref sig .tc := ⟨.hbm, 970, rfl⟩
abbrev main_v675 : Ref sig .tc := ⟨.hbm, 971, rfl⟩
abbrev main_v676 : Ref sig .tc := ⟨.hbm, 972, rfl⟩
abbrev main_v677 : Ref sig .tc := ⟨.hbm, 973, rfl⟩
abbrev main_v678 : Ref sig .tc := ⟨.hbm, 974, rfl⟩
abbrev main_v679 : Ref sig .tc := ⟨.hbm, 975, rfl⟩
abbrev main_c_162 : Ref sig .tc := ⟨.hbm, 976, rfl⟩
abbrev main_v680 : Ref sig .tc := ⟨.hbm, 977, rfl⟩
abbrev main_c_163 : Ref sig .tc := ⟨.hbm, 978, rfl⟩
abbrev main_c_164 : Ref sig .tc := ⟨.hbm, 979, rfl⟩
abbrev main_call37_v0 : Ref sig .tc := ⟨.hbm, 980, rfl⟩
abbrev main_call37_v1 : Ref sig .tc := ⟨.hbm, 981, rfl⟩
abbrev main_call37_v2 : Ref sig .tc := ⟨.hbm, 982, rfl⟩
abbrev main_v681 : Ref sig .tc := ⟨.hbm, 983, rfl⟩
abbrev main_v682 : Ref sig .tc := ⟨.hbm, 984, rfl⟩
abbrev main_v683 : Ref sig .tc := ⟨.hbm, 985, rfl⟩
abbrev main_v684 : Ref sig .tc := ⟨.hbm, 986, rfl⟩
abbrev main_c_165 : Ref sig .tc := ⟨.hbm, 987, rfl⟩
abbrev main_v685 : Ref sig .tc := ⟨.hbm, 988, rfl⟩
abbrev main_v686 : Ref sig .tc := ⟨.hbm, 989, rfl⟩
abbrev main_v687 : Ref sig .tc := ⟨.hbm, 990, rfl⟩
abbrev main_v688 : Ref sig .tc := ⟨.hbm, 991, rfl⟩
abbrev main_v689 : Ref sig .tc := ⟨.hbm, 992, rfl⟩
abbrev main_v690 : Ref sig .tc := ⟨.hbm, 993, rfl⟩
abbrev main_v691 : Ref sig .tc := ⟨.hbm, 994, rfl⟩
abbrev main_v692 : Ref sig .tc := ⟨.hbm, 995, rfl⟩
abbrev main_c_166 : Ref sig .tc := ⟨.hbm, 996, rfl⟩
abbrev main_v693 : Ref sig .tc := ⟨.hbm, 997, rfl⟩
abbrev main_v694 : Ref sig .tc := ⟨.hbm, 998, rfl⟩
abbrev main_v695 : Ref sig .tc := ⟨.hbm, 999, rfl⟩
abbrev main_v696 : Ref sig .tc := ⟨.hbm, 1000, rfl⟩
abbrev main_v697 : Ref sig .tc := ⟨.hbm, 1001, rfl⟩
abbrev main_v698 : Ref sig .tc := ⟨.hbm, 1002, rfl⟩
abbrev main_c_167 : Ref sig .tc := ⟨.hbm, 1003, rfl⟩
abbrev main_v699 : Ref sig .tc := ⟨.hbm, 1004, rfl⟩
abbrev main_v700 : Ref sig .tc := ⟨.hbm, 1005, rfl⟩
abbrev main_v701 : Ref sig .tc := ⟨.hbm, 1006, rfl⟩
abbrev main_v702 : Ref sig .tc := ⟨.hbm, 1007, rfl⟩
abbrev main_v703 : Ref sig .tc := ⟨.hbm, 1008, rfl⟩
abbrev main_v704 : Ref sig .tc := ⟨.hbm, 1009, rfl⟩
abbrev main_c_168 : Ref sig .tc := ⟨.hbm, 1010, rfl⟩
abbrev main_v705 : Ref sig .tc := ⟨.hbm, 1011, rfl⟩
abbrev main_v706 : Ref sig .tc := ⟨.hbm, 1012, rfl⟩
abbrev main_c_169 : Ref sig .tc := ⟨.hbm, 1013, rfl⟩
abbrev main_v707 : Ref sig .tc := ⟨.hbm, 1014, rfl⟩
abbrev main_v708 : Ref sig .tc := ⟨.hbm, 1015, rfl⟩
abbrev main_c_170 : Ref sig .tc := ⟨.hbm, 1016, rfl⟩
abbrev main_v709 : Ref sig .tc := ⟨.hbm, 1017, rfl⟩
abbrev main_c_171 : Ref sig .tc := ⟨.hbm, 1018, rfl⟩
abbrev main_v710 : Ref sig .tc := ⟨.hbm, 1019, rfl⟩
abbrev main_v711 : Ref sig .tc := ⟨.hbm, 1020, rfl⟩
abbrev main_v712 : Ref sig .tc := ⟨.hbm, 1021, rfl⟩
abbrev main_v713 : Ref sig .tc := ⟨.hbm, 1022, rfl⟩
abbrev main_v714 : Ref sig .tc := ⟨.hbm, 1023, rfl⟩
abbrev main_v715 : Ref sig .tc := ⟨.hbm, 1024, rfl⟩
abbrev main_v716 : Ref sig .tc := ⟨.hbm, 1025, rfl⟩
abbrev main_v717 : Ref sig .tc := ⟨.hbm, 1026, rfl⟩
abbrev main_v718 : Ref sig .tc := ⟨.hbm, 1027, rfl⟩
abbrev main_c_172 : Ref sig .tc := ⟨.hbm, 1028, rfl⟩
abbrev main_v719 : Ref sig .tc := ⟨.hbm, 1029, rfl⟩
abbrev main_v720 : Ref sig .tc := ⟨.hbm, 1030, rfl⟩
abbrev main_c_173 : Ref sig .tc := ⟨.hbm, 1031, rfl⟩
abbrev main_v721 : Ref sig .tc := ⟨.hbm, 1032, rfl⟩
abbrev main_v722 : Ref sig .tc := ⟨.hbm, 1033, rfl⟩
abbrev main_v723 : Ref sig .tc := ⟨.hbm, 1034, rfl⟩
abbrev main_c_174 : Ref sig .tc := ⟨.hbm, 1035, rfl⟩
abbrev main_v724 : Ref sig .tc := ⟨.hbm, 1036, rfl⟩
abbrev main_v725 : Ref sig .tc := ⟨.hbm, 1037, rfl⟩
abbrev main_v726 : Ref sig .tc := ⟨.hbm, 1038, rfl⟩
abbrev main_c_175 : Ref sig .tc := ⟨.hbm, 1039, rfl⟩
abbrev main_v727 : Ref sig .tc := ⟨.hbm, 1040, rfl⟩
abbrev main_v728 : Ref sig .tc := ⟨.hbm, 1041, rfl⟩
abbrev main_c_176 : Ref sig .tc := ⟨.hbm, 1042, rfl⟩
abbrev main_v729 : Ref sig .tc := ⟨.hbm, 1043, rfl⟩
abbrev main_v730 : Ref sig .tc := ⟨.hbm, 1044, rfl⟩
abbrev main_v731 : Ref sig .tc := ⟨.hbm, 1045, rfl⟩
abbrev main_c_177 : Ref sig .tc := ⟨.hbm, 1046, rfl⟩
abbrev main_v732 : Ref sig .tc := ⟨.hbm, 1047, rfl⟩
abbrev main_v733 : Ref sig .tc := ⟨.hbm, 1048, rfl⟩
abbrev main_v734 : Ref sig .tc := ⟨.hbm, 1049, rfl⟩
abbrev main_c_178 : Ref sig .tc := ⟨.hbm, 1050, rfl⟩
abbrev main_v735 : Ref sig .tc := ⟨.hbm, 1051, rfl⟩
abbrev main_v736 : Ref sig .tc := ⟨.hbm, 1052, rfl⟩
abbrev main_v737 : Ref sig .tc := ⟨.hbm, 1053, rfl⟩
abbrev main_c_179 : Ref sig .tc := ⟨.hbm, 1054, rfl⟩
abbrev main_v738 : Ref sig .tc := ⟨.hbm, 1055, rfl⟩
abbrev main_v739 : Ref sig .tc := ⟨.hbm, 1056, rfl⟩
abbrev main_c_180 : Ref sig .tc := ⟨.hbm, 1057, rfl⟩
abbrev main_v740 : Ref sig .tc := ⟨.hbm, 1058, rfl⟩
abbrev main_v741 : Ref sig .tc := ⟨.hbm, 1059, rfl⟩
abbrev main_v742 : Ref sig .tc := ⟨.hbm, 1060, rfl⟩
abbrev main_c_181 : Ref sig .tc := ⟨.hbm, 1061, rfl⟩
abbrev main_v743 : Ref sig .tc := ⟨.hbm, 1062, rfl⟩
abbrev main_v744 : Ref sig .tc := ⟨.hbm, 1063, rfl⟩
abbrev main_c_182 : Ref sig .tc := ⟨.hbm, 1064, rfl⟩
abbrev main_v745 : Ref sig .tc := ⟨.hbm, 1065, rfl⟩
abbrev main_v746 : Ref sig .tc := ⟨.hbm, 1066, rfl⟩
abbrev main_c_183 : Ref sig .tc := ⟨.hbm, 1067, rfl⟩
abbrev main_v747 : Ref sig .tc := ⟨.hbm, 1068, rfl⟩
abbrev main_v748 : Ref sig .tc := ⟨.hbm, 1069, rfl⟩
abbrev main_v749 : Ref sig .tc := ⟨.hbm, 1070, rfl⟩
abbrev main_c_184 : Ref sig .tc := ⟨.hbm, 1071, rfl⟩
abbrev main_v750 : Ref sig .tc := ⟨.hbm, 1072, rfl⟩
abbrev main_v751 : Ref sig .tc := ⟨.hbm, 1073, rfl⟩
abbrev main_c_185 : Ref sig .tc := ⟨.hbm, 1074, rfl⟩
abbrev main_v752 : Ref sig .tc := ⟨.hbm, 1075, rfl⟩
abbrev main_v753 : Ref sig .tc := ⟨.hbm, 1076, rfl⟩
abbrev main_v754 : Ref sig .tc := ⟨.hbm, 1077, rfl⟩
abbrev main_c_186 : Ref sig .tc := ⟨.hbm, 1078, rfl⟩
abbrev main_v755 : Ref sig .tc := ⟨.hbm, 1079, rfl⟩
abbrev main_c_187 : Ref sig .tc := ⟨.hbm, 1080, rfl⟩
abbrev main_v756 : Ref sig .tc := ⟨.hbm, 1081, rfl⟩
abbrev main_v757 : Ref sig .tc := ⟨.hbm, 1082, rfl⟩
abbrev main_c_188 : Ref sig .tc := ⟨.hbm, 1083, rfl⟩
abbrev main_v758 : Ref sig .tc := ⟨.hbm, 1084, rfl⟩
abbrev main_c_189 : Ref sig .tc := ⟨.hbm, 1085, rfl⟩
abbrev main_c_190 : Ref sig .tc := ⟨.hbm, 1086, rfl⟩
abbrev main_call40_v0 : Ref sig .tc := ⟨.hbm, 1087, rfl⟩
abbrev main_call40_v1 : Ref sig .tc := ⟨.hbm, 1088, rfl⟩
abbrev main_call40_v2 : Ref sig .tc := ⟨.hbm, 1089, rfl⟩
abbrev main_v759 : Ref sig .tc := ⟨.hbm, 1090, rfl⟩
abbrev main_v760 : Ref sig .tc := ⟨.hbm, 1091, rfl⟩
abbrev main_c_191 : Ref sig .tc := ⟨.hbm, 1092, rfl⟩
abbrev main_v761 : Ref sig .tc := ⟨.hbm, 1093, rfl⟩
abbrev main_v762 : Ref sig .tc := ⟨.hbm, 1094, rfl⟩
abbrev main_v763 : Ref sig .tc := ⟨.hbm, 1095, rfl⟩
abbrev main_v764 : Ref sig .tc := ⟨.hbm, 1096, rfl⟩
abbrev main_c_192 : Ref sig .tc := ⟨.hbm, 1097, rfl⟩
abbrev main_v765 : Ref sig .tc := ⟨.hbm, 1098, rfl⟩
abbrev main_c_193 : Ref sig .tc := ⟨.hbm, 1099, rfl⟩
abbrev main_c_194 : Ref sig .tc := ⟨.hbm, 1100, rfl⟩
abbrev main_call42_v0 : Ref sig .tc := ⟨.hbm, 1101, rfl⟩
abbrev main_call42_v1 : Ref sig .tc := ⟨.hbm, 1102, rfl⟩
abbrev main_call42_v2 : Ref sig .tc := ⟨.hbm, 1103, rfl⟩
abbrev main_v766 : Ref sig .tc := ⟨.hbm, 1104, rfl⟩
abbrev main_v767 : Ref sig .tc := ⟨.hbm, 1105, rfl⟩
abbrev main_c_195 : Ref sig .tc := ⟨.hbm, 1106, rfl⟩
abbrev main_v768 : Ref sig .tc := ⟨.hbm, 1107, rfl⟩
abbrev main_v769 : Ref sig .tc := ⟨.hbm, 1108, rfl⟩
abbrev main_v770 : Ref sig .tc := ⟨.hbm, 1109, rfl⟩
abbrev main_c_196 : Ref sig .tc := ⟨.hbm, 1110, rfl⟩
abbrev main_call43_v0 : Ref sig .tc := ⟨.hbm, 1111, rfl⟩
abbrev main_v771 : Ref sig .tc := ⟨.hbm, 1112, rfl⟩
abbrev main_v772 : Ref sig .tc := ⟨.hbm, 1113, rfl⟩
abbrev main_v773 : Ref sig .tc := ⟨.hbm, 1114, rfl⟩
abbrev main_v774 : Ref sig .tc := ⟨.hbm, 1115, rfl⟩
abbrev main_v775 : Ref sig .tc := ⟨.hbm, 1116, rfl⟩
abbrev main_v776 : Ref sig .tc := ⟨.hbm, 1117, rfl⟩
abbrev main_c_197 : Ref sig .tc := ⟨.hbm, 1118, rfl⟩
abbrev main_c_198 : Ref sig .tc := ⟨.hbm, 1119, rfl⟩
abbrev main_call44_v0 : Ref sig .tc := ⟨.hbm, 1120, rfl⟩
abbrev main_call44_v1 : Ref sig .tc := ⟨.hbm, 1121, rfl⟩
abbrev main_call44_v2 : Ref sig .tc := ⟨.hbm, 1122, rfl⟩
abbrev main_v777 : Ref sig .tc := ⟨.hbm, 1123, rfl⟩
abbrev main_v778 : Ref sig .tc := ⟨.hbm, 1124, rfl⟩
abbrev main_v779 : Ref sig .tc := ⟨.hbm, 1125, rfl⟩
abbrev main_v780 : Ref sig .tc := ⟨.hbm, 1126, rfl⟩
abbrev main_c_199 : Ref sig .tc := ⟨.hbm, 1127, rfl⟩
abbrev main_v781 : Ref sig .tc := ⟨.hbm, 1128, rfl⟩
abbrev main_c_200 : Ref sig .tc := ⟨.hbm, 1129, rfl⟩
abbrev main_c_201 : Ref sig .tc := ⟨.hbm, 1130, rfl⟩
abbrev main_call45_v0 : Ref sig .tc := ⟨.hbm, 1131, rfl⟩
abbrev main_call45_v1 : Ref sig .tc := ⟨.hbm, 1132, rfl⟩
abbrev main_call45_v2 : Ref sig .tc := ⟨.hbm, 1133, rfl⟩
abbrev main_v782 : Ref sig .tc := ⟨.hbm, 1134, rfl⟩
abbrev main_v783 : Ref sig .tc := ⟨.hbm, 1135, rfl⟩
abbrev main_v784 : Ref sig .tc := ⟨.hbm, 1136, rfl⟩
abbrev main_v785 : Ref sig .tc := ⟨.hbm, 1137, rfl⟩
abbrev main_v786 : Ref sig .tc := ⟨.hbm, 1138, rfl⟩
abbrev main_c_202 : Ref sig .tc := ⟨.hbm, 1139, rfl⟩
abbrev main_v787 : Ref sig .tc := ⟨.hbm, 1140, rfl⟩
abbrev main_c_203 : Ref sig .tc := ⟨.hbm, 1141, rfl⟩
abbrev main_c_204 : Ref sig .tc := ⟨.hbm, 1142, rfl⟩
abbrev main_call46_v0 : Ref sig .tc := ⟨.hbm, 1143, rfl⟩
abbrev main_call46_v1 : Ref sig .tc := ⟨.hbm, 1144, rfl⟩
abbrev main_call46_v2 : Ref sig .tc := ⟨.hbm, 1145, rfl⟩
abbrev main_v788 : Ref sig .tc := ⟨.hbm, 1146, rfl⟩
abbrev main_v789 : Ref sig .tc := ⟨.hbm, 1147, rfl⟩
abbrev main_v790 : Ref sig .tc := ⟨.hbm, 1148, rfl⟩
abbrev main_v791 : Ref sig .tc := ⟨.hbm, 1149, rfl⟩
abbrev main_c_205 : Ref sig .tc := ⟨.hbm, 1150, rfl⟩
abbrev main_v792 : Ref sig .tc := ⟨.hbm, 1151, rfl⟩
abbrev main_v793 : Ref sig .tc := ⟨.hbm, 1152, rfl⟩
abbrev main_v794 : Ref sig .tc := ⟨.hbm, 1153, rfl⟩
abbrev main_v795 : Ref sig .tc := ⟨.hbm, 1154, rfl⟩
abbrev main_v796 : Ref sig .tc := ⟨.hbm, 1155, rfl⟩
abbrev main_v797 : Ref sig .tc := ⟨.hbm, 1156, rfl⟩
abbrev main_v798 : Ref sig .tc := ⟨.hbm, 1157, rfl⟩
abbrev main_v799 : Ref sig .tc := ⟨.hbm, 1158, rfl⟩
abbrev main_v800 : Ref sig .tc := ⟨.hbm, 1159, rfl⟩
abbrev main_v801 : Ref sig .tc := ⟨.hbm, 1160, rfl⟩
abbrev main_c_206 : Ref sig .tc := ⟨.hbm, 1161, rfl⟩
abbrev main_v802 : Ref sig .tc := ⟨.hbm, 1162, rfl⟩
abbrev main_v803 : Ref sig .tc := ⟨.hbm, 1163, rfl⟩
abbrev main_v804 : Ref sig .tc := ⟨.hbm, 1164, rfl⟩
abbrev main_v805 : Ref sig .tc := ⟨.hbm, 1165, rfl⟩
abbrev main_v806 : Ref sig .tc := ⟨.hbm, 1166, rfl⟩
abbrev main_v807 : Ref sig .tc := ⟨.hbm, 1167, rfl⟩
abbrev main_c_207 : Ref sig .tc := ⟨.hbm, 1168, rfl⟩
abbrev main_v808 : Ref sig .tc := ⟨.hbm, 1169, rfl⟩
abbrev main_v809 : Ref sig .tc := ⟨.hbm, 1170, rfl⟩
abbrev main_c_208 : Ref sig .tc := ⟨.hbm, 1171, rfl⟩
abbrev main_v810 : Ref sig .tc := ⟨.hbm, 1172, rfl⟩
abbrev main_v811 : Ref sig .tc := ⟨.hbm, 1173, rfl⟩
abbrev main_c_209 : Ref sig .tc := ⟨.hbm, 1174, rfl⟩
abbrev main_v812 : Ref sig .tc := ⟨.hbm, 1175, rfl⟩
abbrev main_c_210 : Ref sig .tc := ⟨.hbm, 1176, rfl⟩
abbrev main_v813 : Ref sig .tc := ⟨.hbm, 1177, rfl⟩
abbrev main_v814 : Ref sig .tc := ⟨.hbm, 1178, rfl⟩
abbrev main_v815 : Ref sig .tc := ⟨.hbm, 1179, rfl⟩
abbrev main_v816 : Ref sig .tc := ⟨.hbm, 1180, rfl⟩
abbrev main_v817 : Ref sig .tc := ⟨.hbm, 1181, rfl⟩
abbrev main_v818 : Ref sig .tc := ⟨.hbm, 1182, rfl⟩
abbrev main_v819 : Ref sig .tc := ⟨.hbm, 1183, rfl⟩
abbrev main_v820 : Ref sig .tc := ⟨.hbm, 1184, rfl⟩
abbrev main_v821 : Ref sig .tc := ⟨.hbm, 1185, rfl⟩
abbrev main_c_211 : Ref sig .tc := ⟨.hbm, 1186, rfl⟩
abbrev main_v822 : Ref sig .tc := ⟨.hbm, 1187, rfl⟩
abbrev main_v823 : Ref sig .tc := ⟨.hbm, 1188, rfl⟩
abbrev main_c_212 : Ref sig .tc := ⟨.hbm, 1189, rfl⟩
abbrev main_v824 : Ref sig .tc := ⟨.hbm, 1190, rfl⟩
abbrev main_v825 : Ref sig .tc := ⟨.hbm, 1191, rfl⟩
abbrev main_v826 : Ref sig .tc := ⟨.hbm, 1192, rfl⟩
abbrev main_c_213 : Ref sig .tc := ⟨.hbm, 1193, rfl⟩
abbrev main_v827 : Ref sig .tc := ⟨.hbm, 1194, rfl⟩
abbrev main_v828 : Ref sig .tc := ⟨.hbm, 1195, rfl⟩
abbrev main_v829 : Ref sig .tc := ⟨.hbm, 1196, rfl⟩
abbrev main_c_214 : Ref sig .tc := ⟨.hbm, 1197, rfl⟩
abbrev main_v830 : Ref sig .tc := ⟨.hbm, 1198, rfl⟩
abbrev main_v831 : Ref sig .tc := ⟨.hbm, 1199, rfl⟩
abbrev main_c_215 : Ref sig .tc := ⟨.hbm, 1200, rfl⟩
abbrev main_v832 : Ref sig .tc := ⟨.hbm, 1201, rfl⟩
abbrev main_v833 : Ref sig .tc := ⟨.hbm, 1202, rfl⟩
abbrev main_v834 : Ref sig .tc := ⟨.hbm, 1203, rfl⟩
abbrev main_c_216 : Ref sig .tc := ⟨.hbm, 1204, rfl⟩
abbrev main_v835 : Ref sig .tc := ⟨.hbm, 1205, rfl⟩
abbrev main_v836 : Ref sig .tc := ⟨.hbm, 1206, rfl⟩
abbrev main_v837 : Ref sig .tc := ⟨.hbm, 1207, rfl⟩
abbrev main_c_217 : Ref sig .tc := ⟨.hbm, 1208, rfl⟩
abbrev main_v838 : Ref sig .tc := ⟨.hbm, 1209, rfl⟩
abbrev main_v839 : Ref sig .tc := ⟨.hbm, 1210, rfl⟩
abbrev main_v840 : Ref sig .tc := ⟨.hbm, 1211, rfl⟩
abbrev main_c_218 : Ref sig .tc := ⟨.hbm, 1212, rfl⟩
abbrev main_v841 : Ref sig .tc := ⟨.hbm, 1213, rfl⟩
abbrev main_v842 : Ref sig .tc := ⟨.hbm, 1214, rfl⟩
abbrev main_c_219 : Ref sig .tc := ⟨.hbm, 1215, rfl⟩
abbrev main_v843 : Ref sig .tc := ⟨.hbm, 1216, rfl⟩
abbrev main_v844 : Ref sig .tc := ⟨.hbm, 1217, rfl⟩
abbrev main_v845 : Ref sig .tc := ⟨.hbm, 1218, rfl⟩
abbrev main_c_220 : Ref sig .tc := ⟨.hbm, 1219, rfl⟩
abbrev main_v846 : Ref sig .tc := ⟨.hbm, 1220, rfl⟩
abbrev main_v847 : Ref sig .tc := ⟨.hbm, 1221, rfl⟩
abbrev main_c_221 : Ref sig .tc := ⟨.hbm, 1222, rfl⟩
abbrev main_v848 : Ref sig .tc := ⟨.hbm, 1223, rfl⟩
abbrev main_v849 : Ref sig .tc := ⟨.hbm, 1224, rfl⟩
abbrev main_c_222 : Ref sig .tc := ⟨.hbm, 1225, rfl⟩
abbrev main_v850 : Ref sig .tc := ⟨.hbm, 1226, rfl⟩
abbrev main_v851 : Ref sig .tc := ⟨.hbm, 1227, rfl⟩
abbrev main_v852 : Ref sig .tc := ⟨.hbm, 1228, rfl⟩
abbrev main_c_223 : Ref sig .tc := ⟨.hbm, 1229, rfl⟩
abbrev main_v853 : Ref sig .tc := ⟨.hbm, 1230, rfl⟩
abbrev main_v854 : Ref sig .tc := ⟨.hbm, 1231, rfl⟩
abbrev main_c_224 : Ref sig .tc := ⟨.hbm, 1232, rfl⟩
abbrev main_v855 : Ref sig .tc := ⟨.hbm, 1233, rfl⟩
abbrev main_v856 : Ref sig .tc := ⟨.hbm, 1234, rfl⟩
abbrev main_v857 : Ref sig .tc := ⟨.hbm, 1235, rfl⟩
abbrev main_c_225 : Ref sig .tc := ⟨.hbm, 1236, rfl⟩
abbrev main_v858 : Ref sig .tc := ⟨.hbm, 1237, rfl⟩
abbrev main_c_226 : Ref sig .tc := ⟨.hbm, 1238, rfl⟩
abbrev main_v859 : Ref sig .tc := ⟨.hbm, 1239, rfl⟩
abbrev main_v860 : Ref sig .tc := ⟨.hbm, 1240, rfl⟩
abbrev main_c_227 : Ref sig .tc := ⟨.hbm, 1241, rfl⟩
abbrev main_v861 : Ref sig .tc := ⟨.hbm, 1242, rfl⟩
abbrev main_c_228 : Ref sig .tc := ⟨.hbm, 1243, rfl⟩
abbrev main_c_229 : Ref sig .tc := ⟨.hbm, 1244, rfl⟩
abbrev main_call49_v0 : Ref sig .tc := ⟨.hbm, 1245, rfl⟩
abbrev main_call49_v1 : Ref sig .tc := ⟨.hbm, 1246, rfl⟩
abbrev main_call49_v2 : Ref sig .tc := ⟨.hbm, 1247, rfl⟩
abbrev main_v862 : Ref sig .tc := ⟨.hbm, 1248, rfl⟩
abbrev main_v863 : Ref sig .tc := ⟨.hbm, 1249, rfl⟩
abbrev main_c_230 : Ref sig .tc := ⟨.hbm, 1250, rfl⟩
abbrev main_v864 : Ref sig .tc := ⟨.hbm, 1251, rfl⟩
abbrev main_v865 : Ref sig .tc := ⟨.hbm, 1252, rfl⟩
abbrev main_v866 : Ref sig .tc := ⟨.hbm, 1253, rfl⟩
abbrev main_v867 : Ref sig .tc := ⟨.hbm, 1254, rfl⟩
abbrev main_c_231 : Ref sig .tc := ⟨.hbm, 1255, rfl⟩
abbrev main_v868 : Ref sig .tc := ⟨.hbm, 1256, rfl⟩
abbrev main_c_232 : Ref sig .tc := ⟨.hbm, 1257, rfl⟩
abbrev main_c_233 : Ref sig .tc := ⟨.hbm, 1258, rfl⟩
abbrev main_call51_v0 : Ref sig .tc := ⟨.hbm, 1259, rfl⟩
abbrev main_call51_v1 : Ref sig .tc := ⟨.hbm, 1260, rfl⟩
abbrev main_call51_v2 : Ref sig .tc := ⟨.hbm, 1261, rfl⟩
abbrev main_v869 : Ref sig .tc := ⟨.hbm, 1262, rfl⟩
abbrev main_v870 : Ref sig .tc := ⟨.hbm, 1263, rfl⟩
abbrev main_c_234 : Ref sig .tc := ⟨.hbm, 1264, rfl⟩
abbrev main_v871 : Ref sig .tc := ⟨.hbm, 1265, rfl⟩
abbrev main_v872 : Ref sig .tc := ⟨.hbm, 1266, rfl⟩
abbrev main_v873 : Ref sig .tc := ⟨.hbm, 1267, rfl⟩
abbrev main_c_235 : Ref sig .tc := ⟨.hbm, 1268, rfl⟩
abbrev main_call52_v0 : Ref sig .tc := ⟨.hbm, 1269, rfl⟩
abbrev main_v874 : Ref sig .tc := ⟨.hbm, 1270, rfl⟩
abbrev main_v875 : Ref sig .tc := ⟨.hbm, 1271, rfl⟩
abbrev main_v876 : Ref sig .tc := ⟨.hbm, 1272, rfl⟩
abbrev main_v877 : Ref sig .tc := ⟨.hbm, 1273, rfl⟩
abbrev main_v878 : Ref sig .tc := ⟨.hbm, 1274, rfl⟩
abbrev main_v879 : Ref sig .tc := ⟨.hbm, 1275, rfl⟩
abbrev main_c_236 : Ref sig .tc := ⟨.hbm, 1276, rfl⟩
abbrev main_c_237 : Ref sig .tc := ⟨.hbm, 1277, rfl⟩
abbrev main_call53_v0 : Ref sig .tc := ⟨.hbm, 1278, rfl⟩
abbrev main_call53_v1 : Ref sig .tc := ⟨.hbm, 1279, rfl⟩
abbrev main_call53_v2 : Ref sig .tc := ⟨.hbm, 1280, rfl⟩
abbrev main_v880 : Ref sig .tc := ⟨.hbm, 1281, rfl⟩
abbrev main_v881 : Ref sig .tc := ⟨.hbm, 1282, rfl⟩
abbrev main_v882 : Ref sig .tc := ⟨.hbm, 1283, rfl⟩
abbrev main_v883 : Ref sig .tc := ⟨.hbm, 1284, rfl⟩
abbrev main_c_238 : Ref sig .tc := ⟨.hbm, 1285, rfl⟩
abbrev main_v884 : Ref sig .tc := ⟨.hbm, 1286, rfl⟩
abbrev main_c_239 : Ref sig .tc := ⟨.hbm, 1287, rfl⟩
abbrev main_c_240 : Ref sig .tc := ⟨.hbm, 1288, rfl⟩
abbrev main_call54_v0 : Ref sig .tc := ⟨.hbm, 1289, rfl⟩
abbrev main_call54_v1 : Ref sig .tc := ⟨.hbm, 1290, rfl⟩
abbrev main_call54_v2 : Ref sig .tc := ⟨.hbm, 1291, rfl⟩
abbrev main_v885 : Ref sig .tc := ⟨.hbm, 1292, rfl⟩
abbrev main_v886 : Ref sig .tc := ⟨.hbm, 1293, rfl⟩
abbrev main_v887 : Ref sig .tc := ⟨.hbm, 1294, rfl⟩
abbrev main_v888 : Ref sig .tc := ⟨.hbm, 1295, rfl⟩
abbrev main_v889 : Ref sig .tc := ⟨.hbm, 1296, rfl⟩
abbrev main_c_241 : Ref sig .tc := ⟨.hbm, 1297, rfl⟩
abbrev main_v890 : Ref sig .tc := ⟨.hbm, 1298, rfl⟩
abbrev main_c_242 : Ref sig .tc := ⟨.hbm, 1299, rfl⟩
abbrev main_c_243 : Ref sig .tc := ⟨.hbm, 1300, rfl⟩
abbrev main_call55_v0 : Ref sig .tc := ⟨.hbm, 1301, rfl⟩
abbrev main_call55_v1 : Ref sig .tc := ⟨.hbm, 1302, rfl⟩
abbrev main_call55_v2 : Ref sig .tc := ⟨.hbm, 1303, rfl⟩
abbrev main_v891 : Ref sig .tc := ⟨.hbm, 1304, rfl⟩
abbrev main_v892 : Ref sig .tc := ⟨.hbm, 1305, rfl⟩
abbrev main_v893 : Ref sig .tc := ⟨.hbm, 1306, rfl⟩
abbrev main_v894 : Ref sig .tc := ⟨.hbm, 1307, rfl⟩
abbrev main_c_244 : Ref sig .tc := ⟨.hbm, 1308, rfl⟩
abbrev main_v895 : Ref sig .tc := ⟨.hbm, 1309, rfl⟩
abbrev main_v896 : Ref sig .tc := ⟨.hbm, 1310, rfl⟩
abbrev main_v897 : Ref sig .tc := ⟨.hbm, 1311, rfl⟩
abbrev main_v898 : Ref sig .tc := ⟨.hbm, 1312, rfl⟩
abbrev main_v899 : Ref sig .tc := ⟨.hbm, 1313, rfl⟩
abbrev main_v900 : Ref sig .tc := ⟨.hbm, 1314, rfl⟩
abbrev main_v901 : Ref sig .tc := ⟨.hbm, 1315, rfl⟩
abbrev main_c_245 : Ref sig .tc := ⟨.hbm, 1316, rfl⟩
abbrev main_c_246 : Ref sig .tc := ⟨.hbm, 1317, rfl⟩
abbrev main_call58_v0 : Ref sig .tc := ⟨.hbm, 1318, rfl⟩
abbrev main_call58_v1 : Ref sig .tc := ⟨.hbm, 1319, rfl⟩
abbrev main_call58_v2 : Ref sig .tc := ⟨.hbm, 1320, rfl⟩
abbrev main_call58_v3 : Ref sig .tc := ⟨.hbm, 1321, rfl⟩
abbrev main_call58_v4 : Ref sig .tc := ⟨.hbm, 1322, rfl⟩
abbrev main_v902 : Ref sig .tc := ⟨.hbm, 1323, rfl⟩
abbrev main_v903 : Ref sig .tc := ⟨.hbm, 1324, rfl⟩
abbrev main_v904 : Ref sig .tc := ⟨.hbm, 1325, rfl⟩
abbrev main_v905 : Ref sig .tc := ⟨.hbm, 1326, rfl⟩

abbrev nD : Nat := 1
abbrev τ : Topo := Topo.v7x

variable {F : FTy → Type} [FloatOps F]
-- ==== Proof.Words.lean ====
/-
  The 32-bit word arithmetic both programs share: the rounding multiply-and-shift `rs`, and small facts on words
  in the int8 range.
-/
module

public import Idealize.ShloMosaic.Lib.Pointwise
public import Idealize.ShloMosaic.Init

@[expose] public section

noncomputable section

namespace Cert.Proof.Words

open Idealize.ShloMosaic

/-- A 32-bit left shift of any unit is the word's left shift, whatever the amount. -/
theorem shli_eq (u : ArithUnit) (x y : BitVec 32) : IntOp.shli u x y = x <<< y := by
  unfold IntOp.shli
  split
  · rfl
  · next h =>
    rw [BitVec.shiftLeft_eq', BitVec.shiftLeft_eq_zero (by omega)]
    simp [IntOp.cornerWord]

/-- A 32-bit logical right shift of any unit is the word's right shift, whatever the amount. -/
theorem shrui_eq (u : ArithUnit) (x y : BitVec 32) : IntOp.shrui u x y = x >>> y := by
  unfold IntOp.shrui
  split
  · rfl
  · next h =>
    rw [BitVec.ushiftRight_eq', BitVec.ushiftRight_eq_zero (by omega)]
    simp [IntOp.cornerWord]

/-- A bit read as a word: one or zero. -/
theorem select_one_zero (b : BitVec 1) : Scalar.select b 1#32 0#32 = b.setWidth 32 := by
  unfold Scalar.select
  revert b
  decide

/-- The rounding multiply-and-shift of `v` by the multiplier `M` and the shift `n`, written with the operations of
    the programs: the 64-bit product of `|v|` and `M` by 16-bit limbs, the rounding addend, the shift and the sign.
    `uv` and `un` are the units on which the shifts of the value and of the parameters run, and `f` reads a bit as
    a word. -/
def rsG (uv un : ArithUnit) (f : BitVec 1 → BitVec 32) (v M n : BitVec 32) : BitVec 32 :=
  let neg := IntOp.cmpi .slt v 0#32
  let negu := f neg
  let a := IntOp.absi v
  let alo := IntOp.andi a 65535#32
  let ahi := IntOp.shrui uv a 16#32
  let mlo := IntOp.andi M 65535#32
  let mhi := IntOp.shrui un M 16#32
  let ll := IntOp.muli alo mlo
  let lh := IntOp.muli alo mhi
  let hl := IntOp.muli ahi mlo
  let hh := IntOp.muli ahi mhi
  let c1 := IntOp.addi (IntOp.addi (IntOp.shrui uv ll 16#32) (IntOp.andi lh 65535#32)) (IntOp.andi hl 65535#32)
  let c2 := IntOp.addi (IntOp.addi (IntOp.addi (IntOp.shrui uv c1 16#32) (IntOp.shrui uv lh 16#32))
    (IntOp.shrui uv hl 16#32)) (IntOp.andi hh 65535#32)
  let c3 := IntOp.addi (IntOp.shrui uv c2 16#32) (IntOp.shrui uv hh 16#32)
  let lo := IntOp.ori (IntOp.andi ll 65535#32) (IntOp.shli uv (IntOp.andi c1 65535#32) 16#32)
  let hi := IntOp.ori (IntOp.andi c2 65535#32) (IntOp.shli uv c3 16#32)
  let high := IntOp.cmpi .sge n 33#32
  let loAdd := Scalar.select high (IntOp.subi 0#32 negu)
    (IntOp.subi (IntOp.shli un 1#32 (IntOp.minsi 31#32 (IntOp.maxsi 0#32 (IntOp.subi n 1#32)))) negu)
  let hiAdd := Scalar.select high
    (IntOp.subi (IntOp.shli un 1#32 (IntOp.minsi 31#32 (IntOp.maxsi 0#32 (IntOp.subi n 33#32)))) negu) 0#32
  let los := IntOp.addi lo loAdd
  let his := IntOp.addi (IntOp.addi hi hiAdd) (f (IntOp.cmpi .ult los lo))
  let small := IntOp.ori (IntOp.shrui uv los (IntOp.minsi 31#32 (IntOp.maxsi 0#32 n)))
    (IntOp.shli uv his (IntOp.minsi 31#32 (IntOp.maxsi 0#32 (IntOp.subi 32#32 n))))
  let large := IntOp.shrui uv his (IntOp.minsi 31#32 (IntOp.maxsi 0#32 (IntOp.subi n 32#32)))
  let q := Scalar.select (IntOp.cmpi .slt n 32#32) small large
  Scalar.select neg (IntOp.subi 0#32 q) q

/-- The rounding multiply-and-shift with the vector unit's shifts: the common form of both programs. -/
def rs (v M n : BitVec 32) : BitVec 32 := rsG .vector .vector (fun b => b.setWidth 32) v M n

/-- The rounding multiply-and-shift does not depend on the units its shifts run on, and a bit may be read as a word
    by any function that sends it to one or zero. -/
theorem rsG_eq (uv un : ArithUnit) (f : BitVec 1 → BitVec 32) (hf : ∀ b, f b = b.setWidth 32) (v M n : BitVec 32) :
    rsG uv un f v M n = rs v M n := by
  obtain rfl : f = fun b => b.setWidth 32 := funext hf
  unfold rs rsG
  simp only [shli_eq, shrui_eq]

/-- The kernel's spelling: a bit is read as a word by a selection. -/
theorem rsG_select (uv un : ArithUnit) (v M n : BitVec 32) :
    rsG uv un (fun b => Scalar.select b 1#32 0#32) v M n = rs v M n :=
  rsG_eq uv un _ select_one_zero v M n

/-- The clip to `[lo, 127]`, as both programs spell it. -/
def clip (lo v : BitVec 32) : BitVec 32 := IntOp.minsi 127#32 (IntOp.maxsi lo v)

/-- A word clipped to `[lo, 127]` lies in the int8 range when `lo` does. -/
theorem clip_range (lo v : BitVec 32) (h1 : -128 ≤ lo.toInt) (h2 : lo.toInt ≤ 127) :
    -128 ≤ (clip lo v).toInt ∧ (clip lo v).toInt ≤ 127 := by
  have e : (127#32 : BitVec 32).toInt = 127 := by decide
  unfold clip IntOp.minsi IntOp.maxsi
  simp only [BitVec.slt, decide_eq_true_eq]
  split <;> split at * <;> omega

/-- Narrowing to 8 bits and widening again gives back a word in the int8 range. -/
theorem signExtend_truncate (x : BitVec 32) (h1 : -128 ≤ x.toInt) (h2 : x.toInt ≤ 127) :
    (x.setWidth 8).signExtend 32 = x := by
  apply BitVec.eq_of_toInt_eq
  rw [BitVec.toInt_signExtend_of_le (by decide), BitVec.toInt_setWidth]
  rw [BitVec.toInt_eq_toNat_bmod] at *
  have := x.isLt
  simp only [Int.bmod] at *
  omega

/-- The clip narrowed to 8 bits and widened again is the clip, when its lower end lies in the int8 range. -/
theorem clip_round_trip (lo v : BitVec 32) (h1 : -128 ≤ lo.toInt) (h2 : lo.toInt ≤ 127) :
    ((clip lo v).setWidth 8).signExtend 32 = clip lo v :=
  signExtend_truncate _ (clip_range lo v h1 h2).1 (clip_range lo v h1 h2).2

/-- A shift left by twenty is a product by `2 ^ 20`. -/
theorem shl20 (u : ArithUnit) (x : BitVec 32) : IntOp.shli u x 20#32 = IntOp.muli x 1048576#32 := by
  rw [shli_eq]
  unfold IntOp.muli
  apply BitVec.eq_of_toNat_eq
  simp [BitVec.toNat_shiftLeft, Nat.shiftLeft_eq, BitVec.toNat_mul]

end Cert.Proof.Words

end
-- ==== Proof.Sums.lean ====
/-
  Sums of products of integers: as 32-bit words, and as real numbers converted back to a word. A sum of products of small
  integers computed in the reals and converted to a 32-bit word is the word sum of the word products.
-/
module

public import Idealize.ShloMosaic.Lib.Pointwise
public import Idealize.ShloMosaic.Lib.WordSum
public import Idealize.ShloMosaic.Init

@[expose] public section

noncomputable section

namespace Cert.Proof.Sums

open Idealize.ShloMosaic

/-- The commutative fold of word addition from zero is the sum of the words. -/
theorem fold_addi {n : Nat} (f : Fin n → BitVec 32) :
    (Finset.univ : Finset (Fin n)).fold IntOp.addi 0#32 f = ∑ k, f k := by
  rw [Finset.sum_eq_fold]
  rfl

/-- The extended real of an integer. -/
def ofI (z : ℤ) : EReal := ((z : ℝ) : EReal)

/-- An extended real `x` and a word `b` hold one integer, whose size is at most `B`. -/
def Rep (x : EReal) (b : BitVec 32) (B : ℕ) : Prop := ∃ z : ℤ, x = ofI z ∧ b = BitVec.ofInt 32 z ∧ |z| ≤ B

/-- Zero and the zero word hold the integer zero. -/
theorem Rep.zero : Rep 0 0#32 0 := ⟨0, by simp [ofI], by decide, by simp⟩

/-- A word and the extended real of its signed value hold one integer. -/
theorem Rep.word (b : BitVec 32) (B : ℕ) (h : |b.toInt| ≤ B) : Rep (ofI b.toInt) b B :=
  ⟨b.toInt, rfl, by rw [BitVec.ofInt_toInt], h⟩

/-- An 8-bit word's extension and the extended real of its signed value hold one integer of size at most 128. -/
theorem Rep.byte (b : BitVec 8) : Rep (ofI b.toInt) (b.signExtend 32) 128 := by
  refine ⟨b.toInt, rfl, rfl, ?_⟩
  have h1 := BitVec.le_toInt b
  have h2 := BitVec.toInt_lt (x := b)
  rw [abs_le]
  constructor <;> push_cast <;> omega

/-- The product of the two integers of a pair is held by the two products. -/
theorem Rep.mul {x y : EReal} {b c : BitVec 32} {B C : ℕ} (h1 : Rep x b B) (h2 : Rep y c C) :
    Rep (x * y) (b * c) (B * C) := by
  obtain ⟨z, rfl, rfl, hz⟩ := h1
  obtain ⟨w, rfl, rfl, hw⟩ := h2
  refine ⟨z * w, ?_, ?_, ?_⟩
  · unfold ofI
    rw [← EReal.coe_mul]
    norm_cast
  · rw [BitVec.ofInt_mul]
  · rw [abs_mul]
    push_cast
    exact mul_le_mul hz hw (abs_nonneg _) (by positivity)

/-- The sum of the two integers of a pair is held by the two sums. -/
theorem Rep.add {x y : EReal} {b c : BitVec 32} {B C : ℕ} (h1 : Rep x b B) (h2 : Rep y c C) :
    Rep (x + y) (b + c) (B + C) := by
  obtain ⟨z, rfl, rfl, hz⟩ := h1
  obtain ⟨w, rfl, rfl, hw⟩ := h2
  refine ⟨z + w, ?_, ?_, ?_⟩
  · unfold ofI
    rw [← EReal.coe_add]
    norm_cast
  · rw [BitVec.ofInt_add]
  · push_cast
    exact (abs_add_le _ _).trans (add_le_add hz hw)

/-- A finite sum of pairs. -/
theorem Rep.sum {n : Nat} (x : Fin n → EReal) (b : Fin n → BitVec 32) (B : ℕ) (h : ∀ k, Rep (x k) (b k) B) :
    Rep (∑ k, x k) (∑ k, b k) (n * B) := by
  induction n with
  | zero =>
    rw [Fin.sum_univ_zero, Fin.sum_univ_zero, Nat.zero_mul]
    exact Rep.zero
  | succ n ih =>
    rw [Fin.sum_univ_castSucc, Fin.sum_univ_castSucc, Nat.succ_mul]
    exact (ih _ _ fun k => h k.castSucc).add (h (Fin.last n))

/-- The bound of a pair may be enlarged. -/
theorem Rep.mono {x : EReal} {b : BitVec 32} {B C : ℕ} (h : Rep x b B) (hBC : B ≤ C) : Rep x b C := by
  obtain ⟨z, h1, h2, h3⟩ := h
  exact ⟨z, h1, h2, h3.trans (by exact_mod_cast hBC)⟩

/-- Converting the extended real of a pair to a word gives the word, while the integer lies inside the 32-bit range. -/
theorem Rep.fptosi {x : EReal} {b : BitVec 32} {B : ℕ} (h : Rep x b B) (hB : B < 2 ^ 31) : Ideal.fptosi 32 x = b := by
  obtain ⟨z, rfl, rfl, hz⟩ := h
  unfold Ideal.fptosi ofI
  congr 1
  show max _ (min _ (if (0 : ℝ) ≤ (z : ℝ) then ⌊(z : ℝ)⌋ else ⌈(z : ℝ)⌉)) = z
  rw [Int.floor_intCast, Int.ceil_intCast, ite_self]
  have hz' := abs_le.1 hz
  have : (B : ℤ) < 2 ^ 31 := by exact_mod_cast hB
  norm_num
  omega

/-- A dot product of integers of size at most `A` with 8-bit integers, computed in the reals and converted to a word,
    is the word sum of the word products. -/
theorem fptosi_dot {n : Nat} (a : Fin n → BitVec 32) (b : Fin n → BitVec 32) (A B : ℕ) (ha : ∀ k, |(a k).toInt| ≤ A)
    (hb : ∀ k, |(b k).toInt| ≤ B) (hn : n * (A * B) < 2 ^ 31) :
    Ideal.fptosi 32 (∑ k, ofI (a k).toInt * ofI (b k).toInt) = ∑ k, a k * b k :=
  (Rep.sum _ _ _ fun k => (Rep.word (a k) A (ha k)).mul (Rep.word (b k) B (hb k))).fptosi hn

/-- The extension of an 8-bit word is at most 128 in size. -/
theorem abs_byte (b : BitVec 8) : |(b.signExtend 32).toInt| ≤ (128 : ℕ) := by
  rw [BitVec.toInt_signExtend_of_le (by decide)]
  have h1 := BitVec.le_toInt b
  have h2 := BitVec.toInt_lt (x := b)
  rw [abs_le]
  constructor <;> push_cast <;> omega

/-- A zero point taken out of a sum of products: `∑ (d - z) w = ∑ d w - z ∑ w`, on words. -/
theorem sum_sub_mul {n : Nat} (d w : Fin n → BitVec 32) (z : BitVec 32) :
    ∑ k, (d k - z) * w k = ∑ k, d k * w k - z * ∑ k, w k := by
  rw [Finset.mul_sum, ← Finset.sum_sub_distrib]
  exact Finset.sum_congr rfl fun k _ => sub_mul _ _ _

end Cert.Proof.Sums

end
-- ==== Proof.Spec.lean ====
/-
  The network block as plain functions of its nineteen arrays, on 32-bit words: the expansion, its zero-padded neighbourhood,
  the depthwise convolution, the projection and the residual sum. The two programs are both shown to compute these.
-/
module

public import proofs.«01_k».proof.Proof.Words
public import proofs.«01_k».proof.Proof.Sums

@[expose] public section

noncomputable section

namespace Cert.Proof.Spec

open Idealize.ShloMosaic Cert.Proof.Words Cert.Proof.Sums

/-- The nineteen arrays, by coordinates. -/
structure Net where
  X : Fin 193 → Fin 12 → Fin 16 → Fin 96 → BitVec 8
  xz : BitVec 32
  WE : Fin 96 → Fin 576 → BitVec 8
  bE : Fin 576 → BitVec 32
  mE : Fin 576 → BitVec 32
  nE : Fin 576 → BitVec 32
  ez : BitVec 32
  WD : Fin 5 → Fin 5 → Fin 576 → BitVec 8
  bD : Fin 576 → BitVec 32
  mD : Fin 576 → BitVec 32
  nD : Fin 576 → BitVec 32
  dz : BitVec 32
  WP : Fin 576 → Fin 96 → BitVec 8
  bP : Fin 96 → BitVec 32
  mP : Fin 96 → BitVec 32
  nP : Fin 96 → BitVec 32
  pz : BitVec 32
  rq : Fin 6 → BitVec 32
  yz : BitVec 32

/-- The zero points of the expansion and of the depthwise convolution are int8 values. -/
structure Net.Small (N : Net) : Prop where
  ez_lo : -128 ≤ N.ez.toInt
  ez_hi : N.ez.toInt ≤ 127
  dz_lo : -128 ≤ N.dz.toInt
  dz_hi : N.dz.toInt ≤ 127

variable (N : Net) (b : Fin 193) (h : Fin 12) (w : Fin 16)

/-- The expansion: the 1x1 convolution, requantized and clipped to `[ez, 127]`. -/
def Net.e (k : Fin 576) : BitVec 32 :=
  clip N.ez (rs ((∑ i, (N.X b h w i).signExtend 32 * (N.WE i k).signExtend 32)
    - N.xz * (∑ i, (N.WE i k).signExtend 32) + N.bE k) (N.mE k) (N.nE k) + N.ez)

/-- The centred expansion in a frame of two zeros on every side. -/
def Net.pad (i j : Nat) (k : Fin 576) : BitVec 32 :=
  if hij : 2 ≤ i ∧ i < 14 ∧ 2 ≤ j ∧ j < 18 then
    N.e b ⟨i - 2, by omega⟩ ⟨j - 2, by omega⟩ k - N.ez
  else 0#32

/-- One tap of the 5x5 depthwise convolution. -/
def Net.tap (k : Fin 576) (t : Fin 25) : BitVec 32 :=
  N.pad b (h.1 + t.1 / 5) (w.1 + t.1 % 5) k
    * (N.WD ⟨t.1 / 5, by omega⟩ ⟨t.1 % 5, by omega⟩ k).signExtend 32

/-- The depthwise convolution, requantized and clipped to `[dz, 127]`. -/
def Net.d (k : Fin 576) : BitVec 32 :=
  clip N.dz (rs ((∑ t, N.tap b h w k t) + N.bD k) (N.mD k) (N.nD k) + N.dz)

/-- The projection: the 1x1 convolution of the centred depthwise values, requantized and clipped to the int8 range. -/
def Net.p (j : Fin 96) : BitVec 32 :=
  clip 4294967168#32 (rs ((∑ k, (N.d b h w k - N.dz) * (N.WP k j).signExtend 32) + N.bP j) (N.mP j) (N.nP j) + N.pz)

/-- The residual sum, requantized and clipped to the int8 range. -/
def Net.y (j : Fin 96) : BitVec 32 :=
  clip 4294967168#32
    (rs (rs (IntOp.muli ((N.X b h w j).signExtend 32 - N.xz) 1048576#32) (N.rq 0) (N.rq 1)
        + rs (IntOp.muli (N.p b h w j - N.pz) 1048576#32) (N.rq 2) (N.rq 3)) (N.rq 4) (N.rq 5) + N.yz)

/-- A clipped word less its lower end is at most 255 in size, for a lower end in the int8 range. -/
theorem abs_clip_sub (lo v : BitVec 32) (h1 : -128 ≤ lo.toInt) (h2 : lo.toInt ≤ 127) :
    |(clip lo v - lo).toInt| ≤ (255 : ℕ) := by
  have h := clip_range lo v h1 h2
  rw [BitVec.toInt_sub, Int.bmod_eq_of_le (by omega) (by omega), abs_le]
  constructor <;> push_cast <;> omega

/-- The padded values are at most 255 in size. -/
theorem Net.abs_pad (hN : N.Small) (i j : Nat) (k : Fin 576) : |(N.pad b i j k).toInt| ≤ (255 : ℕ) := by
  unfold Net.pad
  split
  · exact abs_clip_sub _ _ hN.ez_lo hN.ez_hi
  · simp

/-- The centred depthwise values are at most 255 in size. -/
theorem Net.abs_d (hN : N.Small) (k : Fin 576) : |(N.d b h w k - N.dz).toInt| ≤ (255 : ℕ) :=
  abs_clip_sub _ _ hN.dz_lo hN.dz_hi

end Cert.Proof.Spec

end
-- ==== Proof.Arrays.lean ====
/-
  The network of nineteen arrays, and the two result arrays as functions of it.
-/
module

public import proofs.«01_k».proof.Proof.Spec
public import Idealize.ShloMosaic.Lib.Pointwise

@[expose] public section

noncomputable section

namespace Cert.Proof.Spec

open Idealize.ShloMosaic

/-- Nineteen arrays, indexed as the two programs hold them, read by coordinates. -/
def Net.ofArrays (a0 : (⟨4, ![193, 12, 16, 96]⟩ : Shape).Idx → BitVec 8) (a1 : (⟨0, ![]⟩ : Shape).Idx → BitVec 32)
    (a2 : (⟨2, ![96, 576]⟩ : Shape).Idx → BitVec 8) (a3 a4 a5 : (⟨1, ![576]⟩ : Shape).Idx → BitVec 32)
    (a6 : (⟨0, ![]⟩ : Shape).Idx → BitVec 32) (a7 : (⟨3, ![5, 5, 576]⟩ : Shape).Idx → BitVec 8)
    (a8 a9 a10 : (⟨1, ![576]⟩ : Shape).Idx → BitVec 32) (a11 : (⟨0, ![]⟩ : Shape).Idx → BitVec 32)
    (a12 : (⟨2, ![576, 96]⟩ : Shape).Idx → BitVec 8) (a13 a14 a15 : (⟨1, ![96]⟩ : Shape).Idx → BitVec 32)
    (a16 : (⟨0, ![]⟩ : Shape).Idx → BitVec 32) (a17 : (⟨1, ![6]⟩ : Shape).Idx → BitVec 32)
    (a18 : (⟨0, ![]⟩ : Shape).Idx → BitVec 32) : Net where
  X b h w i := a0 (ix4 b h w i)
  xz := a1 ix0
  WE i k := a2 (ix2 i k)
  bE k := a3 (ix1 k)
  mE k := a4 (ix1 k)
  nE k := a5 (ix1 k)
  ez := a6 ix0
  WD i j k := a7 (ix3 i j k)
  bD k := a8 (ix1 k)
  mD k := a9 (ix1 k)
  nD k := a10 (ix1 k)
  dz := a11 ix0
  WP k j := a12 (ix2 k j)
  bP j := a13 (ix1 j)
  mP j := a14 (ix1 j)
  nP j := a15 (ix1 j)
  pz := a16 ix0
  rq j := a17 (ix1 j)
  yz := a18 ix0

/-- The residual sum as an int8 array, the twelve rows of sixteen places laid out as 192. -/
def Net.arrY (N : Net) : (⟨3, ![193, 192, 96]⟩ : Shape).Idx → BitVec 8 := fun x =>
  (N.y (x 0) ⟨(x 1).val / 16, by have : (x 1).val < 192 := (x 1).isLt; omega⟩ ⟨(x 1).val % 16, by omega⟩ (x 2)).setWidth 8

/-- The depthwise convolution as an int8 array, the twelve rows of sixteen places laid out as 192. -/
def Net.arrD (N : Net) : (⟨3, ![193, 192, 576]⟩ : Shape).Idx → BitVec 8 := fun x =>
  (N.d (x 0) ⟨(x 1).val / 16, by have : (x 1).val < 192 := (x 1).isLt; omega⟩ ⟨(x 1).val % 16, by omega⟩ (x 2)).setWidth 8

/-- An element of the residual sum's array. -/
theorem Net.arrY_ix3 (N : Net) (b : Fin 193) (r : Fin 192) (j : Fin 96) :
    N.arrY (ix3 b r j) = (N.y b ⟨r.1 / 16, by omega⟩ ⟨r.1 % 16, by omega⟩ j).setWidth 8 := rfl

/-- An element of the depthwise convolution's array. -/
theorem Net.arrD_ix3 (N : Net) (b : Fin 193) (r : Fin 192) (k : Fin 576) :
    N.arrD (ix3 b r k) = (N.d b ⟨r.1 / 16, by omega⟩ ⟨r.1 % 16, by omega⟩ k).setWidth 8 := rfl

end Cert.Proof.Spec

end
-- ==== Proof.Stages.lean ====
/-
  The stages of one block of the kernel, each a function of the values it reads, and each read at one element: the requantized
  expansion, the requantized depthwise sum, the requantized projection and the residual sum.
-/
module

public import proofs.«01_k».proof.Proof.Words
public import proofs.«01_k».proof.Proof.Sums
public import proofs.«01_k».proof.Proof.Gen.KernelIdeal.Skeleton

@[expose] public section

set_option maxRecDepth 16384

noncomputable section

namespace Cert.Proof.Stages

open Idealize.ShloMosaic Cert.KernelIdeal Cert.KernelIdeal.Gen
open Cert.Proof.Words Cert.Proof.Sums

/-- The requantized and clipped expansion less its zero point `z`, of the accumulator `acc`, the multipliers `M` and the
    shifts `n`. -/
def stageE (z : BitVec 32) (acc : IVec S192x576 32) (M n : IVec S1x576 32) : FVec Ideal S192x576 .f32 :=
  k0_pay26 (F := Ideal) z n (k0_pay6 acc 0#32) (k0_pay21 (k0_pay13 acc M) (k0_pay17 acc M))
    (k0_pay22 (k0_pay18 acc M) (k0_pay19 acc M) (k0_pay20 acc M)) (k0_pay24 n (k0_pay7 acc 0#32))
    (k0_pay25 n (k0_pay7 acc 0#32))

/-- One element of the expansion stage is the multiply-and-shift of the accumulator plus the zero point, clipped to
    `[z, 127]`, less the zero point. -/
theorem stageE_apply (z : BitVec 32) (acc : IVec S192x576 32) (M n : IVec S1x576 32) (r : Fin 192) (k : Fin 576) :
    stageE z acc M n (ix2 r k)
      = ofI (clip z (rs (acc (ix2 r k)) (M (ix2 0 k)) (n (ix2 0 k)) + z) - z).toInt := by
  rw [← rsG_select .vector .vector]
  pointwise [stageE, k0_pay26, k0_pay25, k0_pay24, k0_pay23, k0_pay22, k0_pay21, k0_pay20, k0_pay19, k0_pay18, k0_pay17,
    k0_pay16, k0_pay15, k0_pay14, k0_pay13, k0_pay12, k0_pay11, k0_pay10, k0_pay9, k0_pay8, k0_pay7, k0_pay6]
  rfl

/-- The requantized and clipped depthwise sum, as a word. -/
def stageD (z : BitVec 32) (acc : IVec S192x576 32) (M n : IVec S1x576 32) : IVec S192x576 32 :=
  k0_pay62 (F := Ideal) z n (k0_pay40 acc) (k0_pay55 (k0_pay47 acc M) (k0_pay51 acc M))
    (k0_pay56 (k0_pay50 acc M) (k0_pay52 acc M) (k0_pay53 acc M) k0_pay54) (k0_pay58 n (k0_pay41 acc))
    (k0_pay59 n (k0_pay41 acc)) (k0_pay60 n) k0_pay61

/-- One element of the depthwise stage is the multiply-and-shift of the accumulator plus the zero point, clipped. -/
theorem stageD_apply (z : BitVec 32) (acc : IVec S192x576 32) (M n : IVec S1x576 32) (r : Fin 192) (k : Fin 576) :
    stageD z acc M n (ix2 r k) = clip z (rs (acc (ix2 r k)) (M (ix2 0 k)) (n (ix2 0 k)) + z) := by
  rw [← rsG_select .vector .vector]
  pointwise [stageD, k0_pay62, k0_pay61, k0_pay60, k0_pay59, k0_pay58, k0_pay57, k0_pay56, k0_pay55, k0_pay54, k0_pay53,
    k0_pay52, k0_pay51, k0_pay50, k0_pay49, k0_pay48, k0_pay47, k0_pay46, k0_pay45, k0_pay44, k0_pay43, k0_pay42, k0_pay41,
    k0_pay40]
  rfl

/-- The requantized and clipped projection, as a word, of the values the projection's accumulator is computed from. -/
def stageP (z3 z2 : BitVec 32) (d : IVec S192x576 32) (w : IVec S576x96 8) (b M n : IVec S1x96 32) : IVec S192x96 32 :=
  let v544 := k0_pay67 (F := Ideal) n
  let v549 := k0_pay69 (F := Ideal) z2 d w b
  let v560 := k0_pay75 (F := Ideal) z2 d w b M
  let v562 := k0_pay76 (F := Ideal) z2 d w b M
  let v564 := k0_pay77 (F := Ideal) z2 d w b M
  let v597 := k0_pay79 v560 v562 v564
  let v602 := k0_pay80 (k0_pay72 (F := Ideal) z2 d w b) (k0_pay74 (F := Ideal) M) v560 v562 v564
  let v604 := k0_pay81 v544
  let v606 := k0_pay82 v549
  k0_pay88 (F := Ideal) z3 v544 (k0_pay68 (F := Ideal) z2 d w b) (k0_pay85 v544 v549 v597 v602 v604 v606 k0_pay83)
    (k0_pay86 v544 v549 v597 v604 v606 k0_pay83) (k0_pay87 v544)

/-- One element of the projection stage is the multiply-and-shift of its accumulator plus the zero point, clipped to
    the int8 range. -/
theorem stageP_apply (z3 z2 : BitVec 32) (d : IVec S192x576 32) (w : IVec S576x96 8) (b M n : IVec S1x96 32)
    (r : Fin 192) (j : Fin 96) :
    stageP z3 z2 d w b M n (ix2 r j)
      = clip 4294967168#32 (rs (k0_pay65 (F := Ideal) z2 d w b (ix2 r j)) (M (ix2 0 j)) (n (ix2 0 j)) + z3) := by
  rw [← rsG_select .vector .vector]
  pointwise [stageP, k0_pay88, k0_pay87, k0_pay86, k0_pay85, k0_pay84, k0_pay83, k0_pay82, k0_pay81, k0_pay80, k0_pay79,
    k0_pay78, k0_pay77, k0_pay76, k0_pay75, k0_pay74, k0_pay73, k0_pay72, k0_pay71, k0_pay70, k0_pay69, k0_pay68, k0_pay67,
    k0_pay66]
  rfl

/-- The residual input's share of the sum, of the input `x`, its zero point `z`, the multiplier and the shift. -/
def stageA (z M n : BitVec 32) (x : IVec S192x96 32) : IVec S192x96 32 :=
  let v691 := k0_pay93 (F := Ideal) z x
  let v693 := k0_pay94 (F := Ideal) z x
  let v694 : BitVec 32 := Scalar.andi M 65535#32
  let v695 : BitVec 32 := Scalar.shrui M 16#32
  let v734 := k0_pay99 v691 v693 v694 v695
  let v739 := k0_pay100 v691 v693 v694 v695
  let v740 : BitVec 1 := Scalar.cmpi .sge n 33#32
  k0_pay105 (F := Ideal) n (k0_pay90 (F := Ideal) z x)
    (k0_pay103 (F := Ideal) n (k0_pay91 (F := Ideal) z x) v734 v739 v740)
    (k0_pay104 (F := Ideal) n (k0_pay91 (F := Ideal) z x) v734 v739 v740) 32#32

/-- One element of the residual input's share. -/
theorem stageA_apply (z M n : BitVec 32) (x : IVec S192x96 32) (r : Fin 192) (j : Fin 96) :
    stageA z M n x (ix2 r j) = rs (IntOp.muli (x (ix2 r j) - z) 1048576#32) M n := by
  rw [← shl20 .vector, ← rsG_select .vector .scalar]
  pointwise [stageA, k0_pay89, k0_pay90, k0_pay91, k0_pay92, k0_pay93, k0_pay94, k0_pay95, k0_pay96, k0_pay97, k0_pay98,
    k0_pay99, k0_pay100, k0_pay101, k0_pay102, k0_pay103, k0_pay104, k0_pay105]
  rfl

/-- The residual sum: the input's share `a` plus the projection's, of the projection `p`, its zero point `z`, the
    multiplier and the shift. -/
def stageS (z M n : BitVec 32) (a p : IVec S192x96 32) : IVec S192x96 32 :=
  k0_pay123 (F := Ideal) a n (k0_pay107 (F := Ideal) z p)
    (k0_pay118 (k0_pay112 (F := Ideal) z p M) (k0_pay116 (F := Ideal) z p M))
    (k0_pay119 (k0_pay114 (F := Ideal) z p M) (k0_pay115 (F := Ideal) z p M) (k0_pay117 (F := Ideal) z p M))
    (Scalar.cmpi .sge n 33#32) (k0_pay120 (F := Ideal) n (k0_pay108 (F := Ideal) z p))
    (k0_pay121 (F := Ideal) n (k0_pay108 (F := Ideal) z p)) k0_pay122

/-- One element of the residual sum. -/
theorem stageS_apply (z M n : BitVec 32) (a p : IVec S192x96 32) (r : Fin 192) (j : Fin 96) :
    stageS z M n a p (ix2 r j) = a (ix2 r j) + rs (IntOp.muli (p (ix2 r j) - z) 1048576#32) M n := by
  rw [← shl20 .vector, ← rsG_select .vector .scalar]
  pointwise [stageS, k0_pay106, k0_pay107, k0_pay108, k0_pay109, k0_pay110, k0_pay111, k0_pay112, k0_pay113, k0_pay114,
    k0_pay115, k0_pay116, k0_pay117, k0_pay118, k0_pay119, k0_pay120, k0_pay121, k0_pay122, k0_pay123]
  rfl

/-- The output stage, of the nine values the residual sum is computed from. -/
def stageY (z M n : BitVec 32) (v784 : IVec S192x96 32) (v790 : BitVec 32) (v792 : IVec S192x96 1)
    (v841 v846 : IVec S192x96 32) (v847 : BitVec 1) (v856 v862 v863 : IVec S192x96 32) : IVec S1x192x96 8 :=
  let v899 := k0_pay125 (F := Ideal) v784 v790 v792 v841 v846 v847 v856 v862 v863
  let v902 := k0_pay127 (F := Ideal) v784 v790 v792 v841 v846 v847 v856 v862 v863
  let v904 := k0_pay128 (F := Ideal) v784 v790 v792 v841 v846 v847 v856 v862 v863
  let v938 := k0_pay135 (F := Ideal) M v902 v904
  let v945 := k0_pay136 (F := Ideal) M v902 v904
  let v947 := k0_pay137 (F := Ideal) M v902 v904
  k0_pay1 (F := Ideal) z n (k0_pay124 (F := Ideal) v784 v790 v792 v841 v846 v847 v856 v862 v863)
    (k0_pay140 (F := Ideal) n v899 v938 v945 v947 k0_pay138) (k0_pay141 (F := Ideal) n v899 v938 v945 v947 k0_pay138)
    31#32 (Scalar.maxsi 0#32 (Scalar.subi n 32#32))

/-- One element of the output stage is the multiply-and-shift of the residual sum plus the zero point, clipped to the
    int8 range and narrowed. -/
theorem stageY_apply (z M n : BitVec 32) (v784 : IVec S192x96 32) (v790 : BitVec 32) (v792 : IVec S192x96 1)
    (v841 v846 : IVec S192x96 32) (v847 : BitVec 1) (v856 v862 v863 : IVec S192x96 32) (r : Fin 192) (j : Fin 96) :
    stageY z M n v784 v790 v792 v841 v846 v847 v856 v862 v863 (ix3 0 r j)
      = (clip 4294967168#32
          (rs (k0_pay123 (F := Ideal) v784 v790 v792 v841 v846 v847 v856 v862 v863 (ix2 r j)) M n + z)).setWidth 8 := by
  rw [← rsG_select .vector .scalar]
  pointwise [stageY, k0_pay1, k0_pay124, k0_pay125, k0_pay126, k0_pay127, k0_pay128, k0_pay129, k0_pay130, k0_pay131,
    k0_pay132, k0_pay133, k0_pay134, k0_pay135, k0_pay136, k0_pay137, k0_pay138, k0_pay139, k0_pay140, k0_pay141]
  rfl

end Cert.Proof.Stages

end
-- ==== Proof.Taps.lean ====
/-
  The depthwise convolution of one block: the 25 taps the kernel accumulates, read at one element.
-/
module

public import proofs.«01_k».proof.Proof.Stages

@[expose] public section

set_option maxRecDepth 16384

noncomputable section

namespace Cert.Proof.Taps

open Idealize.ShloMosaic Cert.KernelIdeal Cert.KernelIdeal.Gen
open Cert.Proof.Words Cert.Proof.Sums

/-- A sum of 25 terms, written out from zero. -/
theorem sum25 {M : Type} [AddCommMonoid M] (f : Fin 25 → M) :
    ∑ t, f t = 0 + f 0 + f 1 + f 2 + f 3 + f 4 + f 5 + f 6 + f 7 + f 8 + f 9 + f 10 + f 11 + f 12 + f 13 + f 14 + f 15
      + f 16 + f 17 + f 18 + f 19 + f 20 + f 21 + f 22 + f 23 + f 24 := by
  simp only [Fin.sum_univ_castSucc, Fin.sum_univ_zero]
  rfl

/-- The real value of a word. -/
theorem sitofp_eq {n : Nat} (b : BitVec n) : FloatOps.sitofp (F := Ideal) .f32 b = ofI b.toInt := rfl

/-- The depthwise accumulator of a block, of the 25 weight rows `w`, the 25 shifted windows `x` and the bias `b`. -/
def stageT (w : Fin 25 → IVec S1x576 8) (x : Fin 25 → FVec Ideal S12x16x576 .f32) (b : IVec S1x576 32) :
    IVec S192x576 32 :=
  let v203 := k0_pay29 (F := Ideal) (w 0) (x 0) (w 1) (x 1) (w 2) (x 2)
  let v235 := k0_pay30 (F := Ideal) v203 (w 3) (x 3) (w 4) (x 4) (w 5) (x 5) (w 6) (x 6)
  let v239 := k0_pay31 (F := Ideal) (w 7)
  let v275 := k0_pay32 (F := Ideal) v235 v239 (x 7) (w 8) (x 8) (w 9) (x 9) (w 10) (x 10) (w 11) (x 11)
  let v278 := k0_pay33 (F := Ideal) (w 12)
  let v315 := k0_pay34 (F := Ideal) v275 v278 (x 12) (w 13) (x 13) (w 14) (x 14) (w 15) (x 15) (w 16) (x 16)
  let v347 := k0_pay35 (F := Ideal) v315 (w 17) (x 17) (w 18) (x 18) (w 19) (x 19) (w 20) (x 20)
  let v351 := k0_pay36 (F := Ideal) (w 21)
  k0_pay37 (F := Ideal) v347 v351 (x 21) (w 22) (x 22) (w 23) (x 23) (w 24) (x 24) b

/-- One element of the depthwise accumulator: the sum of the 25 products, as a word, plus the bias. -/
theorem stageT_apply (w : Fin 25 → IVec S1x576 8) (x : Fin 25 → FVec Ideal S12x16x576 .f32) (b : IVec S1x576 32)
    (r : Fin 192) (k : Fin 576) :
    stageT w x b (ix2 r k)
      = Ideal.fptosi 32 (∑ t, x t (ix3 ⟨r.1 / 16, by omega⟩ ⟨r.1 % 16, by omega⟩ k) * ofI (w t (ix2 0 k)).toInt)
        + b (ix2 0 k) := by
  rw [sum25]
  pointwise [stageT, k0_pay29, k0_pay30, k0_pay31, k0_pay32, k0_pay33, k0_pay34, k0_pay35, k0_pay36, k0_pay37]
  simp only [sitofp_eq]
  rfl

/-- The expansion's accumulator at one element: the product of the two rows as words, less the zero point's share, plus
    the bias. -/
theorem pay3_apply (z : BitVec 32) (x : IVec S1x192x96 8) (w : IVec S96x576 8) (b : IVec S1x576 32)
    (r : Fin 192) (k : Fin 576) :
    k0_pay3 (F := Ideal) z x w w b (ix2 r k)
      = (∑ i, (x (ix3 0 r i)).signExtend 32 * (w (ix2 i k)).signExtend 32)
        - z * (∑ i, (w (ix2 i k)).signExtend 32) + b (ix2 0 k) := by
  pointwise [k0_pay3]
  simp only [sitofp_eq, fold_addi]
  rw [← fptosi_dot (fun i => (x (ix3 0 r i)).signExtend 32) (fun i => (w (ix2 i k)).signExtend 32) 128 128
    (fun _ => abs_byte _) (fun _ => abs_byte _) (by norm_num)]
  rfl

/-- The projection's accumulator at one element: the product of the centred depthwise row and the weights, as words, plus
    the bias, while the centred values are small. -/
theorem pay65_apply (z : BitVec 32) (d : IVec S192x576 32) (w : IVec S576x96 8) (b : IVec S1x96 32)
    (r : Fin 192) (j : Fin 96) (hd : ∀ k, |(d (ix2 r k) - z).toInt| ≤ (255 : ℕ)) :
    k0_pay65 (F := Ideal) z d w b (ix2 r j)
      = (∑ k, (d (ix2 r k) - z) * (w (ix2 k j)).signExtend 32) + b (ix2 0 j) := by
  pointwise [k0_pay65]
  simp only [sitofp_eq]
  rw [← fptosi_dot (fun k => d (ix2 r k) - z) (fun k => (w (ix2 k j)).signExtend 32) 255 128
    hd (fun _ => abs_byte _) (by norm_num)]
  rfl

end Cert.Proof.Taps

end
-- ==== Proof.Block.lean ====
/-
  What one grid point of the kernel leaves in its two output blocks, as the stages of the values in its eight input blocks.
-/
module

public import proofs.«01_k».proof.Proof.Taps
public import proofs.«01_k».proof.Proof.Spec
public import proofs.«01_k».proof.Proof.Gen.KernelIdeal.Value
public import Idealize.ShloMosaic.Lib.Pipeline.ReadBack
public import Idealize.ShloMosaic.Lib.Pipeline.ValueKit
import all proofs.«01_k».proof.Proof.Gen.KernelIdeal.Frame.RunA

@[expose] public section

set_option maxRecDepth 16384

noncomputable section

namespace Cert.Proof.Block

open Idealize.ShloMosaic Cert.KernelIdeal Cert.KernelIdeal.Gen
open Cert.Proof.Words Cert.Proof.Sums Cert.Proof.Stages Cert.Proof.Taps

/-- Scalar `j` of the eleven. -/
def sw (x0 : Vec Ideal S11 .i32) (j : Fin 11) : BitVec 32 :=
  View.ld (Val := Elt Ideal) (e' := .i32) x0
    (Rect.unit (s := S11) ![j.1] ![1] (fun a => by fin_cases a; show j.1 + 1 ≤ 11; omega))
    (Shape.Idx.first (show 0 < (⟨1, ![1]⟩ : Shape).numel by decide))

/-- Row `j` of a three-row block of 576 columns. -/
def row576 (x : Vec Ideal S3x576 .i32) (j : Fin 3) : Vec Ideal S1x576 .i32 :=
  View.ld (Val := Elt Ideal) (e' := .i32) x (Rect.unit (s := S3x576) ![j.1, 0] ![1, 576]
    (fun a => by fin_cases a; (· show j.1 + 1 ≤ 3; omega); (· exact le_refl 576)))

/-- Row `j` of a three-row block of 96 columns. -/
def row96 (x : Vec Ideal S3x96 .i32) (j : Fin 3) : Vec Ideal S1x96 .i32 :=
  View.ld (Val := Elt Ideal) (e' := .i32) x (Rect.unit (s := S3x96) ![j.1, 0] ![1, 96]
    (fun a => by fin_cases a; (· show j.1 + 1 ≤ 3; omega); (· exact le_refl 96)))

/-- The weight row of tap `t`. -/
def tapRow (x : Vec Ideal S25x576 .i8) (t : Fin 25) : Vec Ideal S1x576 .i8 :=
  View.ld (Val := Elt Ideal) (e' := .i8) x (Rect.unit (s := S25x576) ![t.1, 0] ![1, 576]
    (fun a => by fin_cases a; (· show t.1 + 1 ≤ 25; omega); (· exact le_refl 576)))

/-- What is stored into the padded frame: zeros everywhere, then the centred expansion `E` in the middle. -/
def pieces (E : FVec Ideal S192x576 .f32) : List (View.Piece (Elt Ideal) S16x32x576 .f32) :=
  [⟨Rect.unit (s := S16x32x576) ![2, 8, 0] ![12, 16, 576] inb_S16x32x576_S12x16x576_2_8_0, k0_pay28 (F := Ideal) E⟩,
    ⟨Rect.unit (s := S16x32x576) ![0, 0, 0] ![16, 32, 576] inb_S16x32x576_S16x32x576_0_0_0, k0_pay27 (F := Ideal)⟩]

/-- The window of the padded frame that tap `t` reads. -/
def window (E : FVec Ideal S192x576 .f32) (t : Fin 25) : FVec Ideal S12x16x576 .f32 := fun y =>
  View.canon (pieces E) ((Rect.unit (s := S16x32x576) ![t.1 / 5, 6 + t.1 % 5, 0] ![12, 16, 576]
    (fun a => by
      fin_cases a
      · show t.1 / 5 + 12 ≤ 16; omega
      · show 6 + t.1 % 5 + 16 ≤ 32; omega
      · exact le_refl 576)).toLoadRect.idx y)

/-- The centred expansion of a block. -/
def blkE (x0 : Vec Ideal S11 .i32) (x1 : Vec Ideal S1x192x96 .i8) (x2 : Vec Ideal S96x576 .i8)
    (x3 : Vec Ideal S3x576 .i32) : FVec Ideal S192x576 .f32 :=
  stageE (sw x0 1) (k0_pay3 (F := Ideal) (sw x0 0) x1 x2 x2 (row576 x3 0)) (k0_pay4 (F := Ideal) (row576 x3 1))
    (k0_pay5 (F := Ideal) (row576 x3 2))

/-- The depthwise values of a block. -/
def blkD (x0 : Vec Ideal S11 .i32) (x1 : Vec Ideal S1x192x96 .i8) (x2 : Vec Ideal S96x576 .i8)
    (x3 : Vec Ideal S3x576 .i32) (x4 : Vec Ideal S25x576 .i8) (x5 : Vec Ideal S3x576 .i32) : IVec S192x576 32 :=
  stageD (sw x0 2) (stageT (tapRow x4) (window (blkE x0 x1 x2 x3)) (row576 x5 0)) (k0_pay38 (F := Ideal) (row576 x5 1))
    (k0_pay39 (F := Ideal) (row576 x5 2))

/-- The depthwise output block, of the depthwise values. -/
def outD (d : IVec S192x576 32) : Vec Ideal S1x192x576 .i8 := k0_pay64 (trunci 8 d natLt_8_32)

/-- The depthwise output block a grid point leaves. -/
theorem out9 (c : Dev nD) (i : grid0.Coords) (arg1 : Memref sig .tc .smem S11 .i32) (harg1 : arg1.IsWhole) (arg2 : Memref sig .tc .vmem S1x192x96 .i8) (harg2 : arg2.IsWhole) (arg3 : Memref sig .tc .vmem S96x576 .i8) (harg3 : arg3.IsWhole) (arg4 : Memref sig .tc .vmem S3x576 .i32) (harg4 : arg4.IsWhole) (arg5 : Memref sig .tc .vmem S25x576 .i8) (harg5 : arg5.IsWhole) (arg6 : Memref sig .tc .vmem S3x576 .i32) (harg6 : arg6.IsWhole) (arg7 : Memref sig .tc .vmem S576x96 .i8) (harg7 : arg7.IsWhole) (arg8 : Memref sig .tc .vmem S3x96 .i32) (harg8 : arg8.IsWhole) (arg9 : Memref sig .tc .vmem S1x192x96 .i8) (harg9 : arg9.IsWhole) (arg10 : Memref sig .tc .vmem S1x192x576 .i8) (harg10 : arg10.IsWhole) (arg11 : Memref sig .tc .vmem S16x32x576 .f32) (harg11 : arg11.IsWhole)
    (x0 : Vec Ideal S11 .i32) (x1 : Vec Ideal S1x192x96 .i8) (x2 : Vec Ideal S96x576 .i8) (x3 : Vec Ideal S3x576 .i32) (x4 : Vec Ideal S25x576 .i8) (x5 : Vec Ideal S3x576 .i32) (x6 : Vec Ideal S576x96 .i8) (x7 : Vec Ideal S3x96 .i32) :
    out0_A_9 c i arg1 harg1 arg2 harg2 arg3 harg3 arg4 harg4 arg5 harg5 arg6 harg6 arg7 harg7 arg8 harg8 arg9 harg9
      arg10 harg10 arg11 harg11 x0 x1 x2 x3 x4 x5 x6 x7 = outD (blkD x0 x1 x2 x3 x4 x5) := by
  frame_open
  simp (disch := decide) only [View.read_writes_junk_eq_canon, View.canon_cons_unit_lit', View.ld_unit_lit',
    View.readCov_eq_canon', View.readAt_eq_ld, Memref.IsWhole.read_unread]
  rfl

/-- The projected values of a block. -/
def blkP (x0 : Vec Ideal S11 .i32) (x1 : Vec Ideal S1x192x96 .i8) (x2 : Vec Ideal S96x576 .i8)
    (x3 : Vec Ideal S3x576 .i32) (x4 : Vec Ideal S25x576 .i8) (x5 : Vec Ideal S3x576 .i32) (x6 : Vec Ideal S576x96 .i8)
    (x7 : Vec Ideal S3x96 .i32) : IVec S192x96 32 :=
  stageP (sw x0 3) (sw x0 2) (blkD x0 x1 x2 x3 x4 x5) x6 (row96 x7 0) (row96 x7 1) (row96 x7 2)

/-- The output stage of the residual sum of the input's share `a` and the projection `p`. -/
def outY (x0 : Vec Ideal S11 .i32) (a p : IVec S192x96 32) : Vec Ideal S1x192x96 .i8 :=
  let zp := sw x0 3
  let M := sw x0 7
  let n := sw x0 8
  stageY (sw x0 4) (sw x0 9) (sw x0 10) a n (k0_pay107 (F := Ideal) zp p)
    (k0_pay118 (k0_pay112 (F := Ideal) zp p M) (k0_pay116 (F := Ideal) zp p M))
    (k0_pay119 (k0_pay114 (F := Ideal) zp p M) (k0_pay115 (F := Ideal) zp p M) (k0_pay117 (F := Ideal) zp p M))
    (Scalar.cmpi .sge n 33#32) (k0_pay120 (F := Ideal) n (k0_pay108 (F := Ideal) zp p))
    (k0_pay121 (F := Ideal) n (k0_pay108 (F := Ideal) zp p)) k0_pay122

/-- The residual output block a grid point leaves. -/
theorem out8 (c : Dev nD) (i : grid0.Coords) (arg1 : Memref sig .tc .smem S11 .i32) (harg1 : arg1.IsWhole) (arg2 : Memref sig .tc .vmem S1x192x96 .i8) (harg2 : arg2.IsWhole) (arg3 : Memref sig .tc .vmem S96x576 .i8) (harg3 : arg3.IsWhole) (arg4 : Memref sig .tc .vmem S3x576 .i32) (harg4 : arg4.IsWhole) (arg5 : Memref sig .tc .vmem S25x576 .i8) (harg5 : arg5.IsWhole) (arg6 : Memref sig .tc .vmem S3x576 .i32) (harg6 : arg6.IsWhole) (arg7 : Memref sig .tc .vmem S576x96 .i8) (harg7 : arg7.IsWhole) (arg8 : Memref sig .tc .vmem S3x96 .i32) (harg8 : arg8.IsWhole) (arg9 : Memref sig .tc .vmem S1x192x96 .i8) (harg9 : arg9.IsWhole) (arg10 : Memref sig .tc .vmem S1x192x576 .i8) (harg10 : arg10.IsWhole) (arg11 : Memref sig .tc .vmem S16x32x576 .f32) (harg11 : arg11.IsWhole)
    (x0 : Vec Ideal S11 .i32) (x1 : Vec Ideal S1x192x96 .i8) (x2 : Vec Ideal S96x576 .i8) (x3 : Vec Ideal S3x576 .i32) (x4 : Vec Ideal S25x576 .i8) (x5 : Vec Ideal S3x576 .i32) (x6 : Vec Ideal S576x96 .i8) (x7 : Vec Ideal S3x96 .i32) :
    out0_A_8 c i arg1 harg1 arg2 harg2 arg3 harg3 arg4 harg4 arg5 harg5 arg6 harg6 arg7 harg7 arg8 harg8 arg9 harg9
      arg10 harg10 arg11 harg11 x0 x1 x2 x3 x4 x5 x6 x7
      = outY x0 (stageA (sw x0 0) (sw x0 5) (sw x0 6) (k0_pay2 (F := Ideal) x1)) (blkP x0 x1 x2 x3 x4 x5 x6 x7) := by
  frame_open
  simp (disch := decide) only [View.read_writes_junk_eq_canon, View.canon_cons_unit_lit', View.ld_unit_lit',
    View.readCov_eq_canon', View.readAt_eq_ld, Memref.IsWhole.read_unread]
  rfl

end Cert.Proof.Block

end
-- ==== Proof.BlockValue.lean ====
/-
  The two output blocks of a grid point, element by element: they are the block's depthwise values and residual sum, for input
  blocks that hold the arrays of the network.
-/
module

public import proofs.«01_k».proof.Proof.Block

@[expose] public section

set_option maxRecDepth 16384

noncomputable section

namespace Cert.Proof.Block

open Idealize.ShloMosaic Cert.KernelIdeal Cert.KernelIdeal.Gen
open Cert.Proof.Words Cert.Proof.Sums Cert.Proof.Stages Cert.Proof.Taps Cert.Proof.Spec

/-- A scalar of the eleven, by its index. -/
theorem sw_eq (x0 : Vec Ideal S11 .i32) (j : Fin 11) : sw x0 j = x0 (ix1 j) := by
  unfold sw
  pointwise

/-- An element of a row of a three-row block. -/
theorem row576_apply (x : Vec Ideal S3x576 .i32) (j : Fin 3) (k : Fin 576) : row576 x j (ix2 0 k) = x (ix2 j k) := by
  pointwise [row576]

/-- An element of a row of a three-row block. -/
theorem row96_apply (x : Vec Ideal S3x96 .i32) (j : Fin 3) (k : Fin 96) : row96 x j (ix2 0 k) = x (ix2 j k) := by
  pointwise [row96]

/-- An element of a tap's weight row. -/
theorem tapRow_apply (x : Vec Ideal S25x576 .i8) (t : Fin 25) (k : Fin 576) : tapRow x t (ix2 0 k) = x (ix2 t k) := by
  pointwise [tapRow]

/-- The padded frame inside its border is the stored expansion. -/
theorem canon_inside (E : FVec Ideal S192x576 .f32) (i : Fin 16) (j : Fin 32) (k : Fin 576)
    (hi : 2 ≤ i.1 ∧ i.1 < 14) (hj : 8 ≤ j.1 ∧ j.1 < 24) :
    View.canon (pieces E) (ix3 i j k) = E (ix2 ⟨(i.1 - 2) * 16 + (j.1 - 8), by omega⟩ k) := by
  have hidx : (ix3 i j k : S16x32x576.Idx)
      = (Rect.unit (s := S16x32x576) ![2, 8, 0] ![12, 16, 576] inb_S16x32x576_S12x16x576_2_8_0).emb
          (ix3 ⟨i.1 - 2, by omega⟩ ⟨j.1 - 8, by omega⟩ k : S12x16x576.Idx) := by
    funext a
    apply Fin.ext
    rw [Rect.emb_apply]
    fin_cases a
    · show i.1 = 2 + 1 * (i.1 - 2); omega
    · show j.1 = 8 + 1 * (j.1 - 8); omega
    · show k.1 = 0 + 1 * k.1; omega
  rw [hidx]
  unfold pieces
  rw [View.canon_cons_emb]
  pointwise [k0_pay28]

/-- The padded frame on its border is zero. -/
theorem canon_border (E : FVec Ideal S192x576 .f32) (i : Fin 16) (j : Fin 32) (k : Fin 576)
    (hij : ¬(2 ≤ i.1 ∧ i.1 < 14 ∧ 8 ≤ j.1 ∧ j.1 < 24)) : View.canon (pieces E) (ix3 i j k) = 0 := by
  unfold pieces
  rw [View.canon_cons_of_not_mem, View.canon_cons_unit_lit]
  · pointwise [k0_pay27]
  · decide
  · intro hm
    have hm' : (ix3 i j k : S16x32x576.Idx) ∈ (Rect.unit (s := S16x32x576) ![2, 8, 0] ![12, 16, 576]
      inb_S16x32x576_S12x16x576_2_8_0).set := hm
    have h0 : 2 ≤ i.1 ∧ i.1 < 2 + 12 := Rect.mem_set_unit.1 hm' 0
    have h1 : 8 ≤ j.1 ∧ j.1 < 8 + 16 := Rect.mem_set_unit.1 hm' 1
    omega

/-- An element of the window that a tap reads: the stored expansion at the shifted place, zero outside it. -/
theorem window_apply (E : FVec Ideal S192x576 .f32) (t : Fin 25) (h : Fin 12) (w : Fin 16) (k : Fin 576) :
    window E t (ix3 h w k)
      = if hij : 2 ≤ h.1 + t.1 / 5 ∧ h.1 + t.1 / 5 < 14 ∧ 2 ≤ w.1 + t.1 % 5 ∧ w.1 + t.1 % 5 < 18 then
          E (ix2 ⟨(h.1 + t.1 / 5 - 2) * 16 + (w.1 + t.1 % 5 - 2), by omega⟩ k)
        else 0 := by
  have hidx : window E t (ix3 h w k)
      = View.canon (pieces E) (ix3 ⟨h.1 + t.1 / 5, by omega⟩ ⟨w.1 + t.1 % 5 + 6, by omega⟩ k) := by
    unfold window
    congr 1
    funext a
    apply Fin.ext
    rw [LoadRect.idx_apply]
    fin_cases a
    · show t.1 / 5 + 1 * h.1 = h.1 + t.1 / 5; omega
    · show 6 + t.1 % 5 + 1 * w.1 = w.1 + t.1 % 5 + 6; omega
    · show 0 + 1 * k.1 = k.1; omega
  rw [hidx]
  split
  · rw [canon_inside E _ _ k (by dsimp only; omega) (by dsimp only; omega)]
    congr 2
  · exact canon_border E _ _ k (by dsimp only; omega)

/-- The eight input blocks of a grid point hold the network's arrays, the activations those of batch entry `b`. -/
structure Holds (N : Net) (b : Fin 193) (x0 : Vec Ideal S11 .i32) (x1 : Vec Ideal S1x192x96 .i8)
    (x2 : Vec Ideal S96x576 .i8) (x3 : Vec Ideal S3x576 .i32) (x4 : Vec Ideal S25x576 .i8) (x5 : Vec Ideal S3x576 .i32)
    (x6 : Vec Ideal S576x96 .i8) (x7 : Vec Ideal S3x96 .i32) : Prop where
  xz : x0 (ix1 0) = N.xz
  ez : x0 (ix1 1) = N.ez
  dz : x0 (ix1 2) = N.dz
  pz : x0 (ix1 3) = N.pz
  yz : x0 (ix1 4) = N.yz
  rq : ∀ j : Fin 6, x0 (ix1 ⟨j.1 + 5, by omega⟩) = N.rq j
  X : ∀ (r : Fin 192) (i : Fin 96), x1 (ix3 0 r i) = N.X b ⟨r.1 / 16, by omega⟩ ⟨r.1 % 16, by omega⟩ i
  WE : ∀ i k, x2 (ix2 i k) = N.WE i k
  bE : ∀ k, x3 (ix2 0 k) = N.bE k
  mE : ∀ k, x3 (ix2 1 k) = N.mE k
  nE : ∀ k, x3 (ix2 2 k) = N.nE k
  WD : ∀ (t : Fin 25) k, x4 (ix2 t k) = N.WD ⟨t.1 / 5, by omega⟩ ⟨t.1 % 5, by omega⟩ k
  bD : ∀ k, x5 (ix2 0 k) = N.bD k
  mD : ∀ k, x5 (ix2 1 k) = N.mD k
  nD : ∀ k, x5 (ix2 2 k) = N.nD k
  WP : ∀ k j, x6 (ix2 k j) = N.WP k j
  bP : ∀ j, x7 (ix2 0 j) = N.bP j
  mP : ∀ j, x7 (ix2 1 j) = N.mP j
  nP : ∀ j, x7 (ix2 2 j) = N.nP j

section
variable {N : Net} {b : Fin 193} {x0 : Vec Ideal S11 .i32} {x1 : Vec Ideal S1x192x96 .i8}
    {x2 : Vec Ideal S96x576 .i8} {x3 : Vec Ideal S3x576 .i32} {x4 : Vec Ideal S25x576 .i8} {x5 : Vec Ideal S3x576 .i32}
    {x6 : Vec Ideal S576x96 .i8} {x7 : Vec Ideal S3x96 .i32} (H : Holds N b x0 x1 x2 x3 x4 x5 x6 x7)
include H

/-- The block's centred expansion. -/
theorem blkE_apply (r : Fin 192) (k : Fin 576) :
    blkE x0 x1 x2 x3 (ix2 r k) = ofI (N.e b ⟨r.1 / 16, by omega⟩ ⟨r.1 % 16, by omega⟩ k - N.ez).toInt := by
  unfold blkE Net.e
  rw [stageE_apply, pay3_apply]
  have h4 : k0_pay4 (F := Ideal) (row576 x3 1) (ix2 0 k) = N.mE k := by
    pointwise [k0_pay4]
    rw [row576_apply, H.mE]
  have h5 : k0_pay5 (F := Ideal) (row576 x3 2) (ix2 0 k) = N.nE k := by
    pointwise [k0_pay5]
    rw [row576_apply, H.nE]
  rw [h4, h5, row576_apply, H.bE, sw_eq, sw_eq, H.ez, H.xz]
  simp only [H.X, H.WE]

/-- The window of the padded frame that a tap reads holds the padded expansion. -/
theorem window_eq (t : Fin 25) (h : Fin 12) (w : Fin 16) (k : Fin 576) :
    window (blkE x0 x1 x2 x3) t (ix3 h w k) = ofI (N.pad b (h.1 + t.1 / 5) (w.1 + t.1 % 5) k).toInt := by
  rw [window_apply]
  unfold Net.pad
  split
  · rename_i hij
    rw [blkE_apply H]
    have h1 : ((h.1 + t.1 / 5 - 2) * 16 + (w.1 + t.1 % 5 - 2)) / 16 = h.1 + t.1 / 5 - 2 := by omega
    have h2 : ((h.1 + t.1 / 5 - 2) * 16 + (w.1 + t.1 % 5 - 2)) % 16 = w.1 + t.1 % 5 - 2 := by omega
    simp only [h1, h2]
  · simp [ofI]

/-- The block's depthwise values. -/
theorem blkD_apply (hN : N.Small) (r : Fin 192) (k : Fin 576) :
    blkD x0 x1 x2 x3 x4 x5 (ix2 r k) = N.d b ⟨r.1 / 16, by omega⟩ ⟨r.1 % 16, by omega⟩ k := by
  unfold blkD Net.d
  rw [stageD_apply, stageT_apply]
  have h4 : k0_pay38 (F := Ideal) (row576 x5 1) (ix2 0 k) = N.mD k := by
    pointwise [k0_pay38]
    rw [row576_apply, H.mD]
  have h5 : k0_pay39 (F := Ideal) (row576 x5 2) (ix2 0 k) = N.nD k := by
    pointwise [k0_pay39]
    rw [row576_apply, H.nD]
  rw [h4, h5, row576_apply, H.bD, sw_eq, H.dz]
  simp only [window_eq H, tapRow_apply, H.WD]
  rw [(Rep.sum _ _ (255 * 128) fun t => (Rep.word (N.pad b (r.1 / 16 + t.1 / 5) (r.1 % 16 + t.1 % 5) k) 255
    (N.abs_pad b hN _ _ _)).mul (Rep.byte (N.WD ⟨t.1 / 5, by omega⟩ ⟨t.1 % 5, by omega⟩ k))).fptosi (by norm_num)]
  rfl

/-- The block's projected values. -/
theorem blkP_apply (hN : N.Small) (r : Fin 192) (j : Fin 96) :
    blkP x0 x1 x2 x3 x4 x5 x6 x7 (ix2 r j) = N.p b ⟨r.1 / 16, by omega⟩ ⟨r.1 % 16, by omega⟩ j := by
  unfold blkP Net.p
  rw [stageP_apply, pay65_apply]
  · simp only [blkD_apply H hN, row96_apply, sw_eq, H.dz, H.pz, H.bP, H.mP, H.nP, H.WP]
  · intro k
    rw [blkD_apply H hN, sw_eq, H.dz]
    exact N.abs_d b _ _ hN k

/-- The depthwise output block. -/
theorem outD_apply (hN : N.Small) (r : Fin 192) (k : Fin 576) :
    outD (blkD x0 x1 x2 x3 x4 x5) (ix3 0 r k)
      = (N.d b ⟨r.1 / 16, by omega⟩ ⟨r.1 % 16, by omega⟩ k).setWidth 8 := by
  rw [← blkD_apply H hN]
  pointwise [outD, k0_pay64]

/-- The residual output block. -/
theorem outY_apply (hN : N.Small) (r : Fin 192) (j : Fin 96) :
    outY x0 (stageA (sw x0 0) (sw x0 5) (sw x0 6) (k0_pay2 (F := Ideal) x1)) (blkP x0 x1 x2 x3 x4 x5 x6 x7) (ix3 0 r j)
      = (N.y b ⟨r.1 / 16, by omega⟩ ⟨r.1 % 16, by omega⟩ j).setWidth 8 := by
  have hx : k0_pay2 (F := Ideal) x1 (ix2 r j)
      = (N.X b ⟨r.1 / 16, by omega⟩ ⟨r.1 % 16, by omega⟩ j).signExtend 32 := by
    rw [← H.X]
    pointwise [k0_pay2]
  have hS := stageS_apply (sw x0 3) (sw x0 7) (sw x0 8)
    (stageA (sw x0 0) (sw x0 5) (sw x0 6) (k0_pay2 (F := Ideal) x1)) (blkP x0 x1 x2 x3 x4 x5 x6 x7) r j
  unfold stageS at hS
  unfold outY Net.y
  rw [stageY_apply, hS, stageA_apply, hx, blkP_apply H hN]
  simp only [sw_eq, H.xz, H.pz, H.yz]
  rw [← H.rq 0, ← H.rq 1, ← H.rq 2, ← H.rq 3, ← H.rq 4, ← H.rq 5]
  rfl

end

end Cert.Proof.Block

end
-- ==== Proof.Host.lean ====
/-
  The blocks a grid point reads hold the network of the nineteen arguments: the host lines before the kernel only stack,
  broadcast and reshape them.
-/
module

public import proofs.«01_k».proof.Proof.Arrays
public import proofs.«01_k».proof.Proof.BlockValue
public import Idealize.ShloMosaic.Lib.StableHlo.RunRead
public import Idealize.ShloMosaic.Lib.Claim
public import Idealize.ShloMosaic.Lib.Pipeline.ValueKit

@[expose] public section

set_option maxRecDepth 16384

noncomputable section

namespace Cert.Proof.Host

open Idealize.ShloMosaic Cert.KernelIdeal Cert.KernelIdeal.Gen Idealize.ShloMosaic.TcCoe
open Cert.Proof.Spec Cert.Proof.Block

variable (m : (ℓ : Loc nD τ sig) → Buf (Elt Ideal) ℓ) (c : Dev nD)

/-- The network of the kernel's arguments on device `c`. -/
def net : Net :=
  Net.ofArrays (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) (m ((c : Thread nD τ).loc main_arg15)) (m ((c : Thread nD τ).loc main_arg16))
    (m ((c : Thread nD τ).loc main_arg17)) (m ((c : Thread nD τ).loc main_arg18))

/-- The eight input windows' block indices: point `t` reads image `t`, and everything else whole. -/
theorem idx (t : Fin cfg0.N) : win0_0.index t = ![0] ∧ win0_1.index t = ![t.1, 0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, win0_0.index t = ![0] ∧ win0_1.index t = ![t.1, 0, 0] ∧ win0_2.index t = ![0, 0]
    ∧ win0_3.index t = ![0, 0] ∧ win0_4.index t = ![0, 0] ∧ win0_5.index t = ![0, 0] ∧ win0_6.index t = ![0, 0]
    ∧ win0_7.index t = ![0, 0]) t

/-- The five zero points and the six residual parameters stand one after the other in the block of scalars. -/
theorem scalars (t : Fin cfg0.N) (j : Fin 11) : iblk m c 0 t (ix1 j) = V m c main_v6 (ix1 j) := by
  blk_ext [iblk, (idx t).1]

/-- The image of point `t`, in rows of 192. -/
theorem image (t : Fin cfg0.N) (r : Fin 192) (i : Fin 96) :
    iblk m c 1 t (ix3 0 r i) = V m c main_v7 (ix3 ⟨t.1, t.2⟩ r i) := by
  blk_ext [iblk, (idx t).2.1]

/-- The three rows of the expansion's bias and rescaling, whole. -/
theorem rows3 (t : Fin cfg0.N) (j : Fin 3) (k : Fin 576) : iblk m c 3 t (ix2 j k) = V m c main_v11 (ix2 j k) := by
  blk_ext [iblk, (idx t).2.2.2.1]

/-- The depthwise filter in twenty-five rows, whole. -/
theorem rows4 (t : Fin cfg0.N) (j : Fin 25) (k : Fin 576) : iblk m c 4 t (ix2 j k) = V m c main_v12 (ix2 j k) := by
  blk_ext [iblk, (idx t).2.2.2.2.1]

/-- The three rows of the depthwise bias and rescaling, whole. -/
theorem rows5 (t : Fin cfg0.N) (j : Fin 3) (k : Fin 576) : iblk m c 5 t (ix2 j k) = V m c main_v16 (ix2 j k) := by
  blk_ext [iblk, (idx t).2.2.2.2.2.1]

/-- The three rows of the projection's bias and rescaling, whole. -/
theorem rows7 (t : Fin cfg0.N) (j : Fin 3) (k : Fin 96) : iblk m c 7 t (ix2 j k) = V m c main_v20 (ix2 j k) := by
  blk_ext [iblk, (idx t).2.2.2.2.2.2.2]

/-- Point `t` reads the network, with image `t`. -/
theorem holds (t : Fin cfg0.N) : Holds (net m c) ⟨t.1, t.2⟩ (iblk m c 0 t) (iblk m c 1 t) (iblk m c 2 t) (iblk m c 3 t)
    (iblk m c 4 t) (iblk m c 5 t) (iblk m c 6 t) (iblk m c 7 t) := by
  constructor
  case rq =>
    intro j
    rw [scalars]
    unfold_abbrev_sides
    after_reads_simp
    pointwise
    rw [dif_neg (by omega)]
    rfl
  case X =>
    intro r i
    rw [image]
    entry_read
    pointwise
    rfl
  case WE =>
    intro i k
    have e : iblk m c 2 t (ix2 i k) = m ((c : Thread nD τ).loc main_arg2) (ix2 i k) := by
      blk_ext [iblk, V, (idx t).2.2.1]
    rw [e]
    rfl
  case WD =>
    intro j k
    rw [rows4]
    entry_read
    pointwise
    rfl
  case WP =>
    intro k j
    have e : iblk m c 6 t (ix2 k j) = m ((c : Thread nD τ).loc main_arg12) (ix2 k j) := by
      blk_ext [iblk, V, (idx t).2.2.2.2.2.2.1]
    rw [e]
    rfl
  all_goals
    intros
    first | rw [scalars] | rw [rows3] | rw [rows5] | rw [rows7]
    unfold_abbrev_sides
    after_reads_simp
    pointwise
    after_reads_simp
    pointwise

end Cert.Proof.Host

end
-- ==== Proof.Final.lean ====
/-
  The kernel's two result arrays after its run: the residual sum and the depthwise convolution of the network of its arguments.
-/
module

public import proofs.«01_k».proof.Proof.Host
public import proofs.«01_k».proof.Proof.Gen.KernelIdeal.Value

@[expose] public section

set_option maxRecDepth 16384

noncomputable section

namespace Cert.Proof.Final

open Idealize.ShloMosaic Cert.KernelIdeal Cert.KernelIdeal.Gen Idealize.ShloMosaic.TcCoe
open Cert.Proof.Spec Cert.Proof.Block Cert.Proof.Host

variable (m : (ℓ : Loc nD τ sig) → Buf (Elt Ideal) ℓ) (c : Dev nD)

/-- The two output windows' block indices: point `t` writes image `t`. -/
theorem idx (t : Fin cfg0.N) : win0_8.index t = ![t.1, 0, 0] ∧ win0_9.index t = ![t.1, 0, 0] :=
  (by decide +kernel : ∀ t : Fin grid0.N, win0_8.index t = ![t.1, 0, 0] ∧ win0_9.index t = ![t.1, 0, 0]) t

/-- Where point `t` writes an element of its block of the residual sum. -/
theorem place8 (t : Fin cfg0.N) (r : Fin 192) (j : Fin 96) :
    ((cfg0.win 8).blk t).view.emb (ix3 0 r j) = ix3 (⟨t.1, t.2⟩ : Fin 193) r j := by
  blk_ext [(idx t).1]

/-- Where point `t` writes an element of its block of the depthwise convolution. -/
theorem place9 (t : Fin cfg0.N) (r : Fin 192) (k : Fin 576) :
    ((cfg0.win 9).blk t).view.emb (ix3 0 r k) = ix3 (⟨t.1, t.2⟩ : Fin 193) r k := by
  blk_ext [(idx t).2]

/-- The kernel's first result is the residual sum. -/
theorem arr8 (hN : (net m c).Small) : (dats m 0 c).arrAt 8 cfg0.N = (net m c).arrY := by
  refine (dats m 0 c).arrAt_eq_of_covers 8 _ (by decide +kernel) fun t hf y => ?_
  blk_simp
  obtain ⟨a, r, j, rfl⟩ : ∃ (a : Fin 1) (r : Fin 192) (j : Fin 96), y = ix3 a r j := ⟨y 0, y 1, y 2, eq_ix3 y⟩
  obtain rfl : a = 0 := Subsingleton.elim _ _
  rw [after0_8]
  refine Eq.trans ?_ (congrArg (net m c).arrY (place8 t r j)).symm
  refine Eq.trans ?_ (Net.arrY_ix3 (net m c) ⟨t.1, t.2⟩ r j).symm
  simp only [outsAt0]
  rw [out8]
  exact outY_apply (holds m c t) hN r j

/-- The kernel's second result is the depthwise convolution. -/
theorem arr9 (hN : (net m c).Small) : (dats m 0 c).arrAt 9 cfg0.N = (net m c).arrD := by
  refine (dats m 0 c).arrAt_eq_of_covers 9 _ (by decide +kernel) fun t hf y => ?_
  blk_simp
  obtain ⟨a, r, k, rfl⟩ : ∃ (a : Fin 1) (r : Fin 192) (k : Fin 576), y = ix3 a r k := ⟨y 0, y 1, y 2, eq_ix3 y⟩
  obtain rfl : a = 0 := Subsingleton.elim _ _
  rw [after0_9]
  refine Eq.trans ?_ (congrArg (net m c).arrD (place9 t r k)).symm
  refine Eq.trans ?_ (Net.arrD_ix3 (net m c) ⟨t.1, t.2⟩ r k).symm
  simp only [outsAt0]
  rw [out9]
  exact outD_apply (holds m c t) hN r k

end Cert.Proof.Final

end
-- ==== Proof.RefRescale.lean ====
/-
  The six rounding multiply-and-shifts of the reference, read at one element: each intermediate array is read at the element from
  the arrays it is made of, and the whole is the rounding multiply-and-shift of the element.
-/
module

public import proofs.«01_k».proof.Proof.Gen.ReferenceIdeal.Run
public import proofs.«01_k».proof.Proof.Arrays

@[expose] public section

set_option maxRecDepth 16384

noncomputable section

namespace Cert.Proof.Ref

open Idealize.ShloMosaic Idealize.ShloMosaic.StableHlo Cert.ReferenceIdeal Cert.ReferenceIdeal.Gen Cert.ReferenceIdeal.Value
open Cert.Proof.Words Cert.Proof.Sums Cert.Proof.Spec

variable (V0 : Valuation τ sig (Elt Ideal)) (b : Fin 193) (h : Fin 12) (w : Fin 16)

/-- The negative of a word is zero less it. -/
theorem neg_eq (x : BitVec 32) : -x = IntOp.subi 0#32 x := (BitVec.zero_sub x).symm

/-- The network of the reference's arguments. -/
def net : Net :=
  Net.ofArrays (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))
    (V0 (Proc.devRef .tc main_arg8)) (V0 (Proc.devRef .tc main_arg9)) (V0 (Proc.devRef .tc main_arg10)) (V0 (Proc.devRef .tc main_arg11))
    (V0 (Proc.devRef .tc main_arg12)) (V0 (Proc.devRef .tc main_arg13)) (V0 (Proc.devRef .tc main_arg14)) (V0 (Proc.devRef .tc main_arg15))
    (V0 (Proc.devRef .tc main_arg16)) (V0 (Proc.devRef .tc main_arg17)) (V0 (Proc.devRef .tc main_arg18))

/-- The size of a word of an array, element by element. -/
theorem absi_at {s : Shape} (x : IVec s 32) (i : s.Idx) : id (absi x) i = IntOp.absi (x i) := rfl

/-- The steps of the rounding multiply-and-shift, each a word on its own, make it up. -/
theorem rs_of {v M n negu a m alo ahi mlo mhi ll lh hl hh c1 c2 lo los his q : BitVec 32} {neg high : BitVec 1}
    (h_neg : neg = IntOp.cmpi .slt v 0#32)
    (h_negu : negu = neg.setWidth 32)
    (h_a : a = IntOp.absi v)
    (h_m : m = M)
    (h_alo : alo = IntOp.andi a 65535#32)
    (h_ahi : ahi = IntOp.shrui .host a 16#32)
    (h_mlo : mlo = IntOp.andi m 65535#32)
    (h_mhi : mhi = IntOp.shrui .host m 16#32)
    (h_ll : ll = IntOp.muli alo mlo)
    (h_lh : lh = IntOp.muli alo mhi)
    (h_hl : hl = IntOp.muli ahi mlo)
    (h_hh : hh = IntOp.muli ahi mhi)
    (h_c1 : c1 = IntOp.addi (IntOp.addi (IntOp.shrui .host ll 16#32) (IntOp.andi lh 65535#32)) (IntOp.andi hl 65535#32))
    (h_c2 : c2 = IntOp.addi (IntOp.addi (IntOp.addi (IntOp.shrui .host c1 16#32) (IntOp.shrui .host lh 16#32)) (IntOp.shrui .host hl 16#32)) (IntOp.andi hh 65535#32))
    (h_lo : lo = IntOp.ori (IntOp.andi ll 65535#32) (IntOp.shli .host (IntOp.andi c1 65535#32) 16#32))
    (h_high : high = IntOp.cmpi .sge n 33#32)
    (h_los : los = IntOp.addi lo (Scalar.select high (IntOp.subi 0#32 negu) (IntOp.subi (IntOp.shli .host 1#32 (IntOp.minsi 31#32 (IntOp.maxsi 0#32 (IntOp.subi n 1#32)))) negu)))
    (h_his : his = IntOp.addi (IntOp.addi (IntOp.ori (IntOp.andi c2 65535#32) (IntOp.shli .host (IntOp.addi (IntOp.shrui .host c2 16#32) (IntOp.shrui .host hh 16#32)) 16#32)) (Scalar.select high (IntOp.subi (IntOp.shli .host 1#32 (IntOp.minsi 31#32 (IntOp.maxsi 0#32 (IntOp.subi n 33#32)))) negu) 0#32)) ((IntOp.cmpi .ult los lo).setWidth 32))
    (h_q : q = Scalar.select (IntOp.cmpi .slt n 32#32) (IntOp.ori (IntOp.shrui .host los (IntOp.minsi 31#32 (IntOp.maxsi 0#32 n))) (IntOp.shli .host his (IntOp.minsi 31#32 (IntOp.maxsi 0#32 (IntOp.subi 32#32 n))))) (IntOp.shrui .host his (IntOp.minsi 31#32 (IntOp.maxsi 0#32 (IntOp.subi n 32#32))))) :
    Scalar.select neg (IntOp.subi 0#32 q) q = rs v M n := by
  rw [← rsG_eq .host .host (fun b => b.setWidth 32) (fun _ => rfl)]
  subst h_m
  unfold rsG
  extract_lets neg' negu' a' alo' ahi' mlo' mhi' ll' lh' hl' hh' c1' c2' c3' lo' hi' high' loAdd' hiAdd' los' his' small' large' q'
  have e_neg : neg = neg' := by rw [h_neg] <;> rfl
  have e_negu : negu = negu' := by rw [h_negu, e_neg] <;> rfl
  have e_a : a = a' := by rw [h_a] <;> rfl
  have e_alo : alo = alo' := by rw [h_alo, e_a] <;> rfl
  have e_ahi : ahi = ahi' := by rw [h_ahi, e_a] <;> rfl
  have e_mlo : mlo = mlo' := by rw [h_mlo] <;> rfl
  have e_mhi : mhi = mhi' := by rw [h_mhi] <;> rfl
  have e_ll : ll = ll' := by rw [h_ll, e_alo, e_mlo] <;> rfl
  have e_lh : lh = lh' := by rw [h_lh, e_alo, e_mhi] <;> rfl
  have e_hl : hl = hl' := by rw [h_hl, e_ahi, e_mlo] <;> rfl
  have e_hh : hh = hh' := by rw [h_hh, e_ahi, e_mhi] <;> rfl
  have e_c1 : c1 = c1' := by rw [h_c1, e_ll, e_lh, e_hl] <;> rfl
  have e_c2 : c2 = c2' := by rw [h_c2, e_c1, e_lh, e_hl, e_hh] <;> rfl
  have e_lo : lo = lo' := by rw [h_lo, e_ll, e_c1] <;> rfl
  have e_high : high = high' := by rw [h_high] <;> rfl
  have e_los : los = los' := by rw [h_los, e_lo, e_high, e_negu] <;> rfl
  have e_his : his = his' := by rw [h_his, e_c2, e_hh, e_high, e_negu, e_los, e_lo] <;> rfl
  have e_q : q = q' := by rw [h_q, e_los, e_his] <;> rfl
  rw [e_neg, e_q]

/-- Whether the word is negative. -/
theorem at19 (V0 : Valuation τ sig (Elt Ideal)) (b : Fin 193) (h : Fin 12) (w : Fin 16) (k : Fin 576) :
    (res_main_v19 (F := Ideal) V0 : IVec S193x12x16x576 1) (ix4 b h w k)
      = IntOp.cmpi .slt ((res_main_v17 (F := Ideal) V0 : IVec S193x12x16x576 32) (ix4 b h w k)) 0#32 := by
  pointwise [res_main_v19, id_eq]

/-- The sign as a word. -/
theorem at20 (V0 : Valuation τ sig (Elt Ideal)) (b : Fin 193) (h : Fin 12) (w : Fin 16) (k : Fin 576) :
    (res_main_v20 (F := Ideal) V0 : IVec S193x12x16x576 32) (ix4 b h w k)
      = ((res_main_v19 (F := Ideal) V0 : IVec S193x12x16x576 1) (ix4 b h w k)).setWidth 32 := by
  pointwise [res_main_v20, id_eq]

/-- The size of the word. -/
theorem at22 (V0 : Valuation τ sig (Elt Ideal)) (b : Fin 193) (h : Fin 12) (w : Fin 16) (k : Fin 576) :
    (res_main_v22 (F := Ideal) V0 : IVec S193x12x16x576 32) (ix4 b h w k)
      = IntOp.absi ((res_main_v17 (F := Ideal) V0 : IVec S193x12x16x576 32) (ix4 b h w k)) := by
  unfold res_main_v22
  exact absi_at _ _

/-- The multiplier. -/
theorem at23 (V0 : Valuation τ sig (Elt Ideal)) (k : Fin 576) :
    (res_main_v23 (F := Ideal) V0 : IVec S576 32) (ix1 k)
      = (net V0).mE k := by
  pointwise [res_main_v23, id_eq]
  rfl

/-- The low limb of the size. -/
theorem at25 (V0 : Valuation τ sig (Elt Ideal)) (b : Fin 193) (h : Fin 12) (w : Fin 16) (k : Fin 576) :
    (res_main_v25 (F := Ideal) V0 : IVec S193x12x16x576 32) (ix4 b h w k)
      = IntOp.andi ((res_main_v22 (F := Ideal) V0 : IVec S193x12x16x576 32) (ix4 b h w k)) 65535#32 := by
  pointwise [res_main_v25, id_eq]

/-- The high limb of the size. -/
theorem at27 (V0 : Valuation τ sig (Elt Ideal)) (b : Fin 193) (h : Fin 12) (w : Fin 16) (k : Fin 576) :
    (res_main_v27 (F := Ideal) V0 : IVec S193x12x16x576 32) (ix4 b h w k)
      = IntOp.shrui .host ((res_main_v22 (F := Ideal) V0 : IVec S193x12x16x576 32) (ix4 b h w k)) 16#32 := by
  pointwise [res_main_v27, id_eq]

/-- The low limb of the multiplier. -/
theorem at29 (V0 : Valuation τ sig (Elt Ideal)) (k : Fin 576) :
    (res_main_v29 (F := Ideal) V0 : IVec S576 32) (ix1 k)
      = IntOp.andi ((res_main_v23 (F := Ideal) V0 : IVec S576 32) (ix1 k)) 65535#32 := by
  pointwise [res_main_v29, id_eq]

/-- The high limb of the multiplier. -/
theorem at31 (V0 : Valuation τ sig (Elt Ideal)) (k : Fin 576) :
    (res_main_v31 (F := Ideal) V0 : IVec S576 32) (ix1 k)
      = IntOp.shrui .host ((res_main_v23 (F := Ideal) V0 : IVec S576 32) (ix1 k)) 16#32 := by
  pointwise [res_main_v31, id_eq]

/-- The product of the low limbs. -/
theorem at34 (V0 : Valuation τ sig (Elt Ideal)) (b : Fin 193) (h : Fin 12) (w : Fin 16) (k : Fin 576) :
    (res_main_v34 (F := Ideal) V0 : IVec S193x12x16x576 32) (ix4 b h w k)
      = IntOp.muli ((res_main_v25 (F := Ideal) V0 : IVec S193x12x16x576 32) (ix4 b h w k)) ((res_main_v29 (F := Ideal) V0 : IVec S576 32) (ix1 k)) := by
  pointwise [res_main_v34, id_eq]

/-- The product of the low limb and the multiplier's high limb. -/
theorem at37 (V0 : Valuation τ sig (Elt Ideal)) (b : Fin 193) (h : Fin 12) (w : Fin 16) (k : Fin 576) :
    (res_main_v37 (F := Ideal) V0 : IVec S193x12x16x576 32) (ix4 b h w k)
      = IntOp.muli ((res_main_v25 (F := Ideal) V0 : IVec S193x12x16x576 32) (ix4 b h w k)) ((res_main_v31 (F := Ideal) V0 : IVec S576 32) (ix1 k)) := by
  pointwise [res_main_v37, id_eq]

/-- The product of the high limb and the multiplier's low limb. -/
theorem at40 (V0 : Valuation τ sig (Elt Ideal)) (b : Fin 193) (h : Fin 12) (w : Fin 16) (k : Fin 576) :
    (res_main_v40 (F := Ideal) V0 : IVec S193x12x16x576 32) (ix4 b h w k)
      = IntOp.muli ((res_main_v27 (F := Ideal) V0 : IVec S193x12x16x576 32) (ix4 b h w k)) ((res_main_v29 (F := Ideal) V0 : IVec S576 32) (ix1 k)) := by
  pointwise [res_main_v40, id_eq]

/-- The product of the high limbs. -/
theorem at43 (V0 : Valuation τ sig (Elt Ideal)) (b : Fin 193) (h : Fin 12) (w : Fin 16) (k : Fin 576) :
    (res_main_v43 (F := Ideal) V0 : IVec S193x12x16x576 32) (ix4 b h w k)
      = IntOp.muli ((res_main_v27 (F := Ideal) V0 : IVec S193x12x16x576 32) (ix4 b h w k)) ((res_main_v31 (F := Ideal) V0 : IVec S576 32) (ix1 k)) := by
  pointwise [res_main_v43, id_eq]

/-- The second limb of the product, with its carry. -/
theorem at51 (V0 : Valuation τ sig (Elt Ideal)) (b : Fin 193) (h : Fin 12) (w : Fin 16) (k : Fin 576) :
    (res_main_v51 (F := Ideal) V0 : IVec S193x12x16x576 32) (ix4 b h w k)
      = IntOp.addi (IntOp.addi (IntOp.shrui .host ((res_main_v34 (F := Ideal) V0 : IVec S193x12x16x576 32) (ix4 b h w k)) 16#32) (IntOp.andi ((res_main_v37 (F := Ideal) V0 : IVec S193x12x16x576 32) (ix4 b h w k)) 65535#32)) (IntOp.andi ((res_main_v40 (F := Ideal) V0 : IVec S193x12x16x576 32) (ix4 b h w k)) 65535#32) := by
  pointwise [res_main_v51, id_eq]

/-- The third limb of the product, with its carry. -/
theorem at62 (V0 : Valuation τ sig (Elt Ideal)) (b : Fin 193) (h : Fin 12) (w : Fin 16) (k : Fin 576) :
    (res_main_v62 (F := Ideal) V0 : IVec S193x12x16x576 32) (ix4 b h w k)
      = IntOp.addi (IntOp.addi (IntOp.addi (IntOp.shrui .host ((res_main_v51 (F := Ideal) V0 : IVec S193x12x16x576 32) (ix4 b h w k)) 16#32) (IntOp.shrui .host ((res_main_v37 (F := Ideal) V0 : IVec S193x12x16x576 32) (ix4 b h w k)) 16#32)) (IntOp.shrui .host ((res_main_v40 (F := Ideal) V0 : IVec S193x12x16x576 32) (ix4 b h w k)) 16#32)) (IntOp.andi ((res_main_v43 (F := Ideal) V0 : IVec S193x12x16x576 32) (ix4 b h w k)) 65535#32) := by
  pointwise [res_main_v62, id_eq]

/-- The low word of the product. -/
theorem at74 (V0 : Valuation τ sig (Elt Ideal)) (b : Fin 193) (h : Fin 12) (w : Fin 16) (k : Fin 576) :
    (res_main_v74 (F := Ideal) V0 : IVec S193x12x16x576 32) (ix4 b h w k)
      = IntOp.ori (IntOp.andi ((res_main_v34 (F := Ideal) V0 : IVec S193x12x16x576 32) (ix4 b h w k)) 65535#32) (IntOp.shli .host (IntOp.andi ((res_main_v51 (F := Ideal) V0 : IVec S193x12x16x576 32) (ix4 b h w k)) 65535#32) 16#32) := by
  pointwise [res_main_v74, id_eq]

/-- Whether the rounding addend lies in the high word. -/
theorem at81 (V0 : Valuation τ sig (Elt Ideal)) (k : Fin 576) :
    (res_main_v81 (F := Ideal) V0 : IVec S576 1) (ix1 k)
      = IntOp.cmpi .sge ((net V0).nE k) 33#32 := by
  pointwise [res_main_v81, id_eq]
  rfl

/-- The low word with the rounding addend. -/
theorem at104 (V0 : Valuation τ sig (Elt Ideal)) (b : Fin 193) (h : Fin 12) (w : Fin 16) (k : Fin 576) :
    (res_main_v104 (F := Ideal) V0 : IVec S193x12x16x576 32) (ix4 b h w k)
      = IntOp.addi ((res_main_v74 (F := Ideal) V0 : IVec S193x12x16x576 32) (ix4 b h w k)) (Scalar.select ((res_main_v81 (F := Ideal) V0 : IVec S576 1) (ix1 k)) (IntOp.subi 0#32 ((res_main_v20 (F := Ideal) V0 : IVec S193x12x16x576 32) (ix4 b h w k))) (IntOp.subi (IntOp.shli .host 1#32 (IntOp.minsi 31#32 (IntOp.maxsi 0#32 (IntOp.subi ((net V0).nE k) 1#32)))) ((res_main_v20 (F := Ideal) V0 : IVec S193x12x16x576 32) (ix4 b h w k)))) := by
  pointwise [res_main_v104, id_eq]
  rfl

/-- The high word with the rounding addend and the carry. -/
theorem at108 (V0 : Valuation τ sig (Elt Ideal)) (b : Fin 193) (h : Fin 12) (w : Fin 16) (k : Fin 576) :
    (res_main_v108 (F := Ideal) V0 : IVec S193x12x16x576 32) (ix4 b h w k)
      = IntOp.addi (IntOp.addi (IntOp.ori (IntOp.andi ((res_main_v62 (F := Ideal) V0 : IVec S193x12x16x576 32) (ix4 b h w k)) 65535#32) (IntOp.shli .host (IntOp.addi (IntOp.shrui .host ((res_main_v62 (F := Ideal) V0 : IVec S193x12x16x576 32) (ix4 b h w k)) 16#32) (IntOp.shrui .host ((res_main_v43 (F := Ideal) V0 : IVec S193x12x16x576 32) (ix4 b h w k)) 16#32)) 16#32)) (Scalar.select ((res_main_v81 (F := Ideal) V0 : IVec S576 1) (ix1 k)) (IntOp.subi (IntOp.shli .host 1#32 (IntOp.minsi 31#32 (IntOp.maxsi 0#32 (IntOp.subi ((net V0).nE k) 33#32)))) ((res_main_v20 (F := Ideal) V0 : IVec S193x12x16x576 32) (ix4 b h w k))) 0#32)) ((IntOp.cmpi .ult ((res_main_v104 (F := Ideal) V0 : IVec S193x12x16x576 32) (ix4 b h w k)) ((res_main_v74 (F := Ideal) V0 : IVec S193x12x16x576 32) (ix4 b h w k))).setWidth 32) := by
  pointwise [res_main_v108, id_eq]
  rfl

/-- The shifted word, before its sign. -/
theorem at132 (V0 : Valuation τ sig (Elt Ideal)) (b : Fin 193) (h : Fin 12) (w : Fin 16) (k : Fin 576) :
    (res_main_v132 (F := Ideal) V0 : IVec S193x12x16x576 32) (ix4 b h w k)
      = Scalar.select (IntOp.cmpi .slt ((net V0).nE k) 32#32) (IntOp.ori (IntOp.shrui .host ((res_main_v104 (F := Ideal) V0 : IVec S193x12x16x576 32) (ix4 b h w k)) (IntOp.minsi 31#32 (IntOp.maxsi 0#32 ((net V0).nE k)))) (IntOp.shli .host ((res_main_v108 (F := Ideal) V0 : IVec S193x12x16x576 32) (ix4 b h w k)) (IntOp.minsi 31#32 (IntOp.maxsi 0#32 (IntOp.subi 32#32 ((net V0).nE k)))))) (IntOp.shrui .host ((res_main_v108 (F := Ideal) V0 : IVec S193x12x16x576 32) (ix4 b h w k)) (IntOp.minsi 31#32 (IntOp.maxsi 0#32 (IntOp.subi ((net V0).nE k) 32#32)))) := by
  pointwise [res_main_v132, id_eq]
  rfl

/-- The rescaling of the expansion. -/
theorem rs1 (k : Fin 576) :
    (select (s := S193x12x16x576) (res_main_v19 (F := Ideal) V0) (negi (res_main_v132 (F := Ideal) V0)) (res_main_v132 (F := Ideal) V0) : IVec S193x12x16x576 32) (ix4 b h w k)
      = rs ((res_main_v17 (F := Ideal) V0 : IVec S193x12x16x576 32) (ix4 b h w k)) ((net V0).mE k) ((net V0).nE k) := by
  refine Eq.trans ?_ (rs_of (at19 V0 b h w k) (at20 V0 b h w k) (at22 V0 b h w k) (at23 V0 k) (at25 V0 b h w k) (at27 V0 b h w k) (at29 V0 k) (at31 V0 k) (at34 V0 b h w k) (at37 V0 b h w k) (at40 V0 b h w k) (at43 V0 b h w k) (at51 V0 b h w k) (at62 V0 b h w k) (at74 V0 b h w k) (at81 V0 k) (at104 V0 b h w k) (at108 V0 b h w k) (at132 V0 b h w k))
  pointwise
  simp only [neg_eq]

/-- Whether the word is negative. -/
theorem at324 (V0 : Valuation τ sig (Elt Ideal)) (b : Fin 193) (h : Fin 12) (w : Fin 16) (k : Fin 576) :
    (res_main_v324 (F := Ideal) V0 : IVec S193x12x16x576 1) (ix4 b h w k)
      = IntOp.cmpi .slt ((res_main_v322 (F := Ideal) V0 : IVec S193x12x16x576 32) (ix4 b h w k)) 0#32 := by
  pointwise [res_main_v324, id_eq]

/-- The sign as a word. -/
theorem at325 (V0 : Valuation τ sig (Elt Ideal)) (b : Fin 193) (h : Fin 12) (w : Fin 16) (k : Fin 576) :
    (res_main_v325 (F := Ideal) V0 : IVec S193x12x16x576 32) (ix4 b h w k)
      = ((res_main_v324 (F := Ideal) V0 : IVec S193x12x16x576 1) (ix4 b h w k)).setWidth 32 := by
  pointwise [res_main_v325, id_eq]

/-- The size of the word. -/
theorem at327 (V0 : Valuation τ sig (Elt Ideal)) (b : Fin 193) (h : Fin 12) (w : Fin 16) (k : Fin 576) :
    (res_main_v327 (F := Ideal) V0 : IVec S193x12x16x576 32) (ix4 b h w k)
      = IntOp.absi ((res_main_v322 (F := Ideal) V0 : IVec S193x12x16x576 32) (ix4 b h w k)) := by
  unfold res_main_v327
  exact absi_at _ _

/-- The multiplier. -/
theorem at328 (V0 : Valuation τ sig (Elt Ideal)) (k : Fin 576) :
    (res_main_v328 (F := Ideal) V0 : IVec S576 32) (ix1 k)
      = (net V0).mD k := by
  pointwise [res_main_v328, id_eq]
  rfl

/-- The low limb of the size. -/
theorem at330 (V0 : Valuation τ sig (Elt Ideal)) (b : Fin 193) (h : Fin 12) (w : Fin 16) (k : Fin 576) :
    (res_main_v330 (F := Ideal) V0 : IVec S193x12x16x576 32) (ix4 b h w k)
      = IntOp.andi ((res_main_v327 (F := Ideal) V0 : IVec S193x12x16x576 32) (ix4 b h w k)) 65535#32 := by
  pointwise [res_main_v330, id_eq]

/-- The high limb of the size. -/
theorem at332 (V0 : Valuation τ sig (Elt Ideal)) (b : Fin 193) (h : Fin 12) (w : Fin 16) (k : Fin 576) :
    (res_main_v332 (F := Ideal) V0 : IVec S193x12x16x576 32) (ix4 b h w k)
      = IntOp.shrui .host ((res_main_v327 (F := Ideal) V0 : IVec S193x12x16x576 32) (ix4 b h w k)) 16#32 := by
  pointwise [res_main_v332, id_eq]

/-- The low limb of the multiplier. -/
theorem at334 (V0 : Valuation τ sig (Elt Ideal)) (k : Fin 576) :
    (res_main_v334 (F := Ideal) V0 : IVec S576 32) (ix1 k)
      = IntOp.andi ((res_main_v328 (F := Ideal) V0 : IVec S576 32) (ix1 k)) 65535#32 := by
  pointwise [res_main_v334, id_eq]

/-- The high limb of the multiplier. -/
theorem at336 (V0 : Valuation τ sig (Elt Ideal)) (k : Fin 576) :
    (res_main_v336 (F := Ideal) V0 : IVec S576 32) (ix1 k)
      = IntOp.shrui .host ((res_main_v328 (F := Ideal) V0 : IVec S576 32) (ix1 k)) 16#32 := by
  pointwise [res_main_v336, id_eq]

/-- The product of the low limbs. -/
theorem at339 (V0 : Valuation τ sig (Elt Ideal)) (b : Fin 193) (h : Fin 12) (w : Fin 16) (k : Fin 576) :
    (res_main_v339 (F := Ideal) V0 : IVec S193x12x16x576 32) (ix4 b h w k)
      = IntOp.muli ((res_main_v330 (F := Ideal) V0 : IVec S193x12x16x576 32) (ix4 b h w k)) ((res_main_v334 (F := Ideal) V0 : IVec S576 32) (ix1 k)) := by
  pointwise [res_main_v339, id_eq]

/-- The product of the low limb and the multiplier's high limb. -/
theorem at342 (V0 : Valuation τ sig (Elt Ideal)) (b : Fin 193) (h : Fin 12) (w : Fin 16) (k : Fin 576) :
    (res_main_v342 (F := Ideal) V0 : IVec S193x12x16x576 32) (ix4 b h w k)
      = IntOp.muli ((res_main_v330 (F := Ideal) V0 : IVec S193x12x16x576 32) (ix4 b h w k)) ((res_main_v336 (F := Ideal) V0 : IVec S576 32) (ix1 k)) := by
  pointwise [res_main_v342, id_eq]

/-- The product of the high limb and the multiplier's low limb. -/
theorem at345 (V0 : Valuation τ sig (Elt Ideal)) (b : Fin 193) (h : Fin 12) (w : Fin 16) (k : Fin 576) :
    (res_main_v345 (F := Ideal) V0 : IVec S193x12x16x576 32) (ix4 b h w k)
      = IntOp.muli ((res_main_v332 (F := Ideal) V0 : IVec S193x12x16x576 32) (ix4 b h w k)) ((res_main_v334 (F := Ideal) V0 : IVec S576 32) (ix1 k)) := by
  pointwise [res_main_v345, id_eq]

/-- The product of the high limbs. -/
theorem at348 (V0 : Valuation τ sig (Elt Ideal)) (b : Fin 193) (h : Fin 12) (w : Fin 16) (k : Fin 576) :
    (res_main_v348 (F := Ideal) V0 : IVec S193x12x16x576 32) (ix4 b h w k)
      = IntOp.muli ((res_main_v332 (F := Ideal) V0 : IVec S193x12x16x576 32) (ix4 b h w k)) ((res_main_v336 (F := Ideal) V0 : IVec S576 32) (ix1 k)) := by
  pointwise [res_main_v348, id_eq]

/-- The second limb of the product, with its carry. -/
theorem at356 (V0 : Valuation τ sig (Elt Ideal)) (b : Fin 193) (h : Fin 12) (w : Fin 16) (k : Fin 576) :
    (res_main_v356 (F := Ideal) V0 : IVec S193x12x16x576 32) (ix4 b h w k)
      = IntOp.addi (IntOp.addi (IntOp.shrui .host ((res_main_v339 (F := Ideal) V0 : IVec S193x12x16x576 32) (ix4 b h w k)) 16#32) (IntOp.andi ((res_main_v342 (F := Ideal) V0 : IVec S193x12x16x576 32) (ix4 b h w k)) 65535#32)) (IntOp.andi ((res_main_v345 (F := Ideal) V0 : IVec S193x12x16x576 32) (ix4 b h w k)) 65535#32) := by
  pointwise [res_main_v356, id_eq]

/-- The third limb of the product, with its carry. -/
theorem at367 (V0 : Valuation τ sig (Elt Ideal)) (b : Fin 193) (h : Fin 12) (w : Fin 16) (k : Fin 576) :
    (res_main_v367 (F := Ideal) V0 : IVec S193x12x16x576 32) (ix4 b h w k)
      = IntOp.addi (IntOp.addi (IntOp.addi (IntOp.shrui .host ((res_main_v356 (F := Ideal) V0 : IVec S193x12x16x576 32) (ix4 b h w k)) 16#32) (IntOp.shrui .host ((res_main_v342 (F := Ideal) V0 : IVec S193x12x16x576 32) (ix4 b h w k)) 16#32)) (IntOp.shrui .host ((res_main_v345 (F := Ideal) V0 : IVec S193x12x16x576 32) (ix4 b h w k)) 16#32)) (IntOp.andi ((res_main_v348 (F := Ideal) V0 : IVec S193x12x16x576 32) (ix4 b h w k)) 65535#32) := by
  pointwise [res_main_v367, id_eq]

/-- The low word of the product. -/
theorem at379 (V0 : Valuation τ sig (Elt Ideal)) (b : Fin 193) (h : Fin 12) (w : Fin 16) (k : Fin 576) :
    (res_main_v379 (F := Ideal) V0 : IVec S193x12x16x576 32) (ix4 b h w k)
      = IntOp.ori (IntOp.andi ((res_main_v339 (F := Ideal) V0 : IVec S193x12x16x576 32) (ix4 b h w k)) 65535#32) (IntOp.shli .host (IntOp.andi ((res_main_v356 (F := Ideal) V0 : IVec S193x12x16x576 32) (ix4 b h w k)) 65535#32) 16#32) := by
  pointwise [res_main_v379, id_eq]

/-- Whether the rounding addend lies in the high word. -/
theorem at386 (V0 : Valuation τ sig (Elt Ideal)) (k : Fin 576) :
    (res_main_v386 (F := Ideal) V0 : IVec S576 1) (ix1 k)
      = IntOp.cmpi .sge ((net V0).nD k) 33#32 := by
  pointwise [res_main_v386, id_eq]
  rfl

/-- The low word with the rounding addend. -/
theorem at409 (V0 : Valuation τ sig (Elt Ideal)) (b : Fin 193) (h : Fin 12) (w : Fin 16) (k : Fin 576) :
    (res_main_v409 (F := Ideal) V0 : IVec S193x12x16x576 32) (ix4 b h w k)
      = IntOp.addi ((res_main_v379 (F := Ideal) V0 : IVec S193x12x16x576 32) (ix4 b h w k)) (Scalar.select ((res_main_v386 (F := Ideal) V0 : IVec S576 1) (ix1 k)) (IntOp.subi 0#32 ((res_main_v325 (F := Ideal) V0 : IVec S193x12x16x576 32) (ix4 b h w k))) (IntOp.subi (IntOp.shli .host 1#32 (IntOp.minsi 31#32 (IntOp.maxsi 0#32 (IntOp.subi ((net V0).nD k) 1#32)))) ((res_main_v325 (F := Ideal) V0 : IVec S193x12x16x576 32) (ix4 b h w k)))) := by
  pointwise [res_main_v409, id_eq]
  rfl

/-- The high word with the rounding addend and the carry. -/
theorem at413 (V0 : Valuation τ sig (Elt Ideal)) (b : Fin 193) (h : Fin 12) (w : Fin 16) (k : Fin 576) :
    (res_main_v413 (F := Ideal) V0 : IVec S193x12x16x576 32) (ix4 b h w k)
      = IntOp.addi (IntOp.addi (IntOp.ori (IntOp.andi ((res_main_v367 (F := Ideal) V0 : IVec S193x12x16x576 32) (ix4 b h w k)) 65535#32) (IntOp.shli .host (IntOp.addi (IntOp.shrui .host ((res_main_v367 (F := Ideal) V0 : IVec S193x12x16x576 32) (ix4 b h w k)) 16#32) (IntOp.shrui .host ((res_main_v348 (F := Ideal) V0 : IVec S193x12x16x576 32) (ix4 b h w k)) 16#32)) 16#32)) (Scalar.select ((res_main_v386 (F := Ideal) V0 : IVec S576 1) (ix1 k)) (IntOp.subi (IntOp.shli .host 1#32 (IntOp.minsi 31#32 (IntOp.maxsi 0#32 (IntOp.subi ((net V0).nD k) 33#32)))) ((res_main_v325 (F := Ideal) V0 : IVec S193x12x16x576 32) (ix4 b h w k))) 0#32)) ((IntOp.cmpi .ult ((res_main_v409 (F := Ideal) V0 : IVec S193x12x16x576 32) (ix4 b h w k)) ((res_main_v379 (F := Ideal) V0 : IVec S193x12x16x576 32) (ix4 b h w k))).setWidth 32) := by
  pointwise [res_main_v413, id_eq]
  rfl

/-- The shifted word, before its sign. -/
theorem at437 (V0 : Valuation τ sig (Elt Ideal)) (b : Fin 193) (h : Fin 12) (w : Fin 16) (k : Fin 576) :
    (res_main_v437 (F := Ideal) V0 : IVec S193x12x16x576 32) (ix4 b h w k)
      = Scalar.select (IntOp.cmpi .slt ((net V0).nD k) 32#32) (IntOp.ori (IntOp.shrui .host ((res_main_v409 (F := Ideal) V0 : IVec S193x12x16x576 32) (ix4 b h w k)) (IntOp.minsi 31#32 (IntOp.maxsi 0#32 ((net V0).nD k)))) (IntOp.shli .host ((res_main_v413 (F := Ideal) V0 : IVec S193x12x16x576 32) (ix4 b h w k)) (IntOp.minsi 31#32 (IntOp.maxsi 0#32 (IntOp.subi 32#32 ((net V0).nD k)))))) (IntOp.shrui .host ((res_main_v413 (F := Ideal) V0 : IVec S193x12x16x576 32) (ix4 b h w k)) (IntOp.minsi 31#32 (IntOp.maxsi 0#32 (IntOp.subi ((net V0).nD k) 32#32)))) := by
  pointwise [res_main_v437, id_eq]
  rfl

/-- The rescaling of the depthwise sum. -/
theorem rs2 (k : Fin 576) :
    (select (s := S193x12x16x576) (res_main_v324 (F := Ideal) V0) (negi (res_main_v437 (F := Ideal) V0)) (res_main_v437 (F := Ideal) V0) : IVec S193x12x16x576 32) (ix4 b h w k)
      = rs ((res_main_v322 (F := Ideal) V0 : IVec S193x12x16x576 32) (ix4 b h w k)) ((net V0).mD k) ((net V0).nD k) := by
  refine Eq.trans ?_ (rs_of (at324 V0 b h w k) (at325 V0 b h w k) (at327 V0 b h w k) (at328 V0 k) (at330 V0 b h w k) (at332 V0 b h w k) (at334 V0 k) (at336 V0 k) (at339 V0 b h w k) (at342 V0 b h w k) (at345 V0 b h w k) (at348 V0 b h w k) (at356 V0 b h w k) (at367 V0 b h w k) (at379 V0 b h w k) (at386 V0 k) (at409 V0 b h w k) (at413 V0 b h w k) (at437 V0 b h w k))
  pointwise
  simp only [neg_eq]

/-- Whether the word is negative. -/
theorem at463 (V0 : Valuation τ sig (Elt Ideal)) (b : Fin 193) (h : Fin 12) (w : Fin 16) (k : Fin 96) :
    (res_main_v463 (F := Ideal) V0 : IVec S193x12x16x96 1) (ix4 b h w k)
      = IntOp.cmpi .slt ((res_main_v461 (F := Ideal) V0 : IVec S193x12x16x96 32) (ix4 b h w k)) 0#32 := by
  pointwise [res_main_v463, id_eq]

/-- The sign as a word. -/
theorem at464 (V0 : Valuation τ sig (Elt Ideal)) (b : Fin 193) (h : Fin 12) (w : Fin 16) (k : Fin 96) :
    (res_main_v464 (F := Ideal) V0 : IVec S193x12x16x96 32) (ix4 b h w k)
      = ((res_main_v463 (F := Ideal) V0 : IVec S193x12x16x96 1) (ix4 b h w k)).setWidth 32 := by
  pointwise [res_main_v464, id_eq]

/-- The size of the word. -/
theorem at466 (V0 : Valuation τ sig (Elt Ideal)) (b : Fin 193) (h : Fin 12) (w : Fin 16) (k : Fin 96) :
    (res_main_v466 (F := Ideal) V0 : IVec S193x12x16x96 32) (ix4 b h w k)
      = IntOp.absi ((res_main_v461 (F := Ideal) V0 : IVec S193x12x16x96 32) (ix4 b h w k)) := by
  unfold res_main_v466
  exact absi_at _ _

/-- The multiplier. -/
theorem at467 (V0 : Valuation τ sig (Elt Ideal)) (k : Fin 96) :
    (res_main_v467 (F := Ideal) V0 : IVec S96 32) (ix1 k)
      = (net V0).mP k := by
  pointwise [res_main_v467, id_eq]
  rfl

/-- The low limb of the size. -/
theorem at469 (V0 : Valuation τ sig (Elt Ideal)) (b : Fin 193) (h : Fin 12) (w : Fin 16) (k : Fin 96) :
    (res_main_v469 (F := Ideal) V0 : IVec S193x12x16x96 32) (ix4 b h w k)
      = IntOp.andi ((res_main_v466 (F := Ideal) V0 : IVec S193x12x16x96 32) (ix4 b h w k)) 65535#32 := by
  pointwise [res_main_v469, id_eq]

/-- The high limb of the size. -/
theorem at471 (V0 : Valuation τ sig (Elt Ideal)) (b : Fin 193) (h : Fin 12) (w : Fin 16) (k : Fin 96) :
    (res_main_v471 (F := Ideal) V0 : IVec S193x12x16x96 32) (ix4 b h w k)
      = IntOp.shrui .host ((res_main_v466 (F := Ideal) V0 : IVec S193x12x16x96 32) (ix4 b h w k)) 16#32 := by
  pointwise [res_main_v471, id_eq]

/-- The low limb of the multiplier. -/
theorem at473 (V0 : Valuation τ sig (Elt Ideal)) (k : Fin 96) :
    (res_main_v473 (F := Ideal) V0 : IVec S96 32) (ix1 k)
      = IntOp.andi ((res_main_v467 (F := Ideal) V0 : IVec S96 32) (ix1 k)) 65535#32 := by
  pointwise [res_main_v473, id_eq]

/-- The high limb of the multiplier. -/
theorem at475 (V0 : Valuation τ sig (Elt Ideal)) (k : Fin 96) :
    (res_main_v475 (F := Ideal) V0 : IVec S96 32) (ix1 k)
      = IntOp.shrui .host ((res_main_v467 (F := Ideal) V0 : IVec S96 32) (ix1 k)) 16#32 := by
  pointwise [res_main_v475, id_eq]

/-- The product of the low limbs. -/
theorem at478 (V0 : Valuation τ sig (Elt Ideal)) (b : Fin 193) (h : Fin 12) (w : Fin 16) (k : Fin 96) :
    (res_main_v478 (F := Ideal) V0 : IVec S193x12x16x96 32) (ix4 b h w k)
      = IntOp.muli ((res_main_v469 (F := Ideal) V0 : IVec S193x12x16x96 32) (ix4 b h w k)) ((res_main_v473 (F := Ideal) V0 : IVec S96 32) (ix1 k)) := by
  pointwise [res_main_v478, id_eq]

/-- The product of the low limb and the multiplier's high limb. -/
theorem at481 (V0 : Valuation τ sig (Elt Ideal)) (b : Fin 193) (h : Fin 12) (w : Fin 16) (k : Fin 96) :
    (res_main_v481 (F := Ideal) V0 : IVec S193x12x16x96 32) (ix4 b h w k)
      = IntOp.muli ((res_main_v469 (F := Ideal) V0 : IVec S193x12x16x96 32) (ix4 b h w k)) ((res_main_v475 (F := Ideal) V0 : IVec S96 32) (ix1 k)) := by
  pointwise [res_main_v481, id_eq]

/-- The product of the high limb and the multiplier's low limb. -/
theorem at484 (V0 : Valuation τ sig (Elt Ideal)) (b : Fin 193) (h : Fin 12) (w : Fin 16) (k : Fin 96) :
    (res_main_v484 (F := Ideal) V0 : IVec S193x12x16x96 32) (ix4 b h w k)
      = IntOp.muli ((res_main_v471 (F := Ideal) V0 : IVec S193x12x16x96 32) (ix4 b h w k)) ((res_main_v473 (F := Ideal) V0 : IVec S96 32) (ix1 k)) := by
  pointwise [res_main_v484, id_eq]

/-- The product of the high limbs. -/
theorem at487 (V0 : Valuation τ sig (Elt Ideal)) (b : Fin 193) (h : Fin 12) (w : Fin 16) (k : Fin 96) :
    (res_main_v487 (F := Ideal) V0 : IVec S193x12x16x96 32) (ix4 b h w k)
      = IntOp.muli ((res_main_v471 (F := Ideal) V0 : IVec S193x12x16x96 32) (ix4 b h w k)) ((res_main_v475 (F := Ideal) V0 : IVec S96 32) (ix1 k)) := by
  pointwise [res_main_v487, id_eq]

/-- The second limb of the product, with its carry. -/
theorem at495 (V0 : Valuation τ sig (Elt Ideal)) (b : Fin 193) (h : Fin 12) (w : Fin 16) (k : Fin 96) :
    (res_main_v495 (F := Ideal) V0 : IVec S193x12x16x96 32) (ix4 b h w k)
      = IntOp.addi (IntOp.addi (IntOp.shrui .host ((res_main_v478 (F := Ideal) V0 : IVec S193x12x16x96 32) (ix4 b h w k)) 16#32) (IntOp.andi ((res_main_v481 (F := Ideal) V0 : IVec S193x12x16x96 32) (ix4 b h w k)) 65535#32)) (IntOp.andi ((res_main_v484 (F := Ideal) V0 : IVec S193x12x16x96 32) (ix4 b h w k)) 65535#32) := by
  pointwise [res_main_v495, id_eq]

/-- The third limb of the product, with its carry. -/
theorem at506 (V0 : Valuation τ sig (Elt Ideal)) (b : Fin 193) (h : Fin 12) (w : Fin 16) (k : Fin 96) :
    (res_main_v506 (F := Ideal) V0 : IVec S193x12x16x96 32) (ix4 b h w k)
      = IntOp.addi (IntOp.addi (IntOp.addi (IntOp.shrui .host ((res_main_v495 (F := Ideal) V0 : IVec S193x12x16x96 32) (ix4 b h w k)) 16#32) (IntOp.shrui .host ((res_main_v481 (F := Ideal) V0 : IVec S193x12x16x96 32) (ix4 b h w k)) 16#32)) (IntOp.shrui .host ((res_main_v484 (F := Ideal) V0 : IVec S193x12x16x96 32) (ix4 b h w k)) 16#32)) (IntOp.andi ((res_main_v487 (F := Ideal) V0 : IVec S193x12x16x96 32) (ix4 b h w k)) 65535#32) := by
  pointwise [res_main_v506, id_eq]

/-- The low word of the product. -/
theorem at518 (V0 : Valuation τ sig (Elt Ideal)) (b : Fin 193) (h : Fin 12) (w : Fin 16) (k : Fin 96) :
    (res_main_v518 (F := Ideal) V0 : IVec S193x12x16x96 32) (ix4 b h w k)
      = IntOp.ori (IntOp.andi ((res_main_v478 (F := Ideal) V0 : IVec S193x12x16x96 32) (ix4 b h w k)) 65535#32) (IntOp.shli .host (IntOp.andi ((res_main_v495 (F := Ideal) V0 : IVec S193x12x16x96 32) (ix4 b h w k)) 65535#32) 16#32) := by
  pointwise [res_main_v518, id_eq]

/-- Whether the rounding addend lies in the high word. -/
theorem at525 (V0 : Valuation τ sig (Elt Ideal)) (k : Fin 96) :
    (res_main_v525 (F := Ideal) V0 : IVec S96 1) (ix1 k)
      = IntOp.cmpi .sge ((net V0).nP k) 33#32 := by
  pointwise [res_main_v525, id_eq]
  rfl

/-- The low word with the rounding addend. -/
theorem at548 (V0 : Valuation τ sig (Elt Ideal)) (b : Fin 193) (h : Fin 12) (w : Fin 16) (k : Fin 96) :
    (res_main_v548 (F := Ideal) V0 : IVec S193x12x16x96 32) (ix4 b h w k)
      = IntOp.addi ((res_main_v518 (F := Ideal) V0 : IVec S193x12x16x96 32) (ix4 b h w k)) (Scalar.select ((res_main_v525 (F := Ideal) V0 : IVec S96 1) (ix1 k)) (IntOp.subi 0#32 ((res_main_v464 (F := Ideal) V0 : IVec S193x12x16x96 32) (ix4 b h w k))) (IntOp.subi (IntOp.shli .host 1#32 (IntOp.minsi 31#32 (IntOp.maxsi 0#32 (IntOp.subi ((net V0).nP k) 1#32)))) ((res_main_v464 (F := Ideal) V0 : IVec S193x12x16x96 32) (ix4 b h w k)))) := by
  pointwise [res_main_v548, id_eq]
  rfl

/-- The high word with the rounding addend and the carry. -/
theorem at552 (V0 : Valuation τ sig (Elt Ideal)) (b : Fin 193) (h : Fin 12) (w : Fin 16) (k : Fin 96) :
    (res_main_v552 (F := Ideal) V0 : IVec S193x12x16x96 32) (ix4 b h w k)
      = IntOp.addi (IntOp.addi (IntOp.ori (IntOp.andi ((res_main_v506 (F := Ideal) V0 : IVec S193x12x16x96 32) (ix4 b h w k)) 65535#32) (IntOp.shli .host (IntOp.addi (IntOp.shrui .host ((res_main_v506 (F := Ideal) V0 : IVec S193x12x16x96 32) (ix4 b h w k)) 16#32) (IntOp.shrui .host ((res_main_v487 (F := Ideal) V0 : IVec S193x12x16x96 32) (ix4 b h w k)) 16#32)) 16#32)) (Scalar.select ((res_main_v525 (F := Ideal) V0 : IVec S96 1) (ix1 k)) (IntOp.subi (IntOp.shli .host 1#32 (IntOp.minsi 31#32 (IntOp.maxsi 0#32 (IntOp.subi ((net V0).nP k) 33#32)))) ((res_main_v464 (F := Ideal) V0 : IVec S193x12x16x96 32) (ix4 b h w k))) 0#32)) ((IntOp.cmpi .ult ((res_main_v548 (F := Ideal) V0 : IVec S193x12x16x96 32) (ix4 b h w k)) ((res_main_v518 (F := Ideal) V0 : IVec S193x12x16x96 32) (ix4 b h w k))).setWidth 32) := by
  pointwise [res_main_v552, id_eq]
  rfl

/-- The shifted word, before its sign. -/
theorem at576 (V0 : Valuation τ sig (Elt Ideal)) (b : Fin 193) (h : Fin 12) (w : Fin 16) (k : Fin 96) :
    (res_main_v576 (F := Ideal) V0 : IVec S193x12x16x96 32) (ix4 b h w k)
      = Scalar.select (IntOp.cmpi .slt ((net V0).nP k) 32#32) (IntOp.ori (IntOp.shrui .host ((res_main_v548 (F := Ideal) V0 : IVec S193x12x16x96 32) (ix4 b h w k)) (IntOp.minsi 31#32 (IntOp.maxsi 0#32 ((net V0).nP k)))) (IntOp.shli .host ((res_main_v552 (F := Ideal) V0 : IVec S193x12x16x96 32) (ix4 b h w k)) (IntOp.minsi 31#32 (IntOp.maxsi 0#32 (IntOp.subi 32#32 ((net V0).nP k)))))) (IntOp.shrui .host ((res_main_v552 (F := Ideal) V0 : IVec S193x12x16x96 32) (ix4 b h w k)) (IntOp.minsi 31#32 (IntOp.maxsi 0#32 (IntOp.subi ((net V0).nP k) 32#32)))) := by
  pointwise [res_main_v576, id_eq]
  rfl

/-- The rescaling of the projection. -/
theorem rs3 (k : Fin 96) :
    (select (s := S193x12x16x96) (res_main_v463 (F := Ideal) V0) (negi (res_main_v576 (F := Ideal) V0)) (res_main_v576 (F := Ideal) V0) : IVec S193x12x16x96 32) (ix4 b h w k)
      = rs ((res_main_v461 (F := Ideal) V0 : IVec S193x12x16x96 32) (ix4 b h w k)) ((net V0).mP k) ((net V0).nP k) := by
  refine Eq.trans ?_ (rs_of (at463 V0 b h w k) (at464 V0 b h w k) (at466 V0 b h w k) (at467 V0 k) (at469 V0 b h w k) (at471 V0 b h w k) (at473 V0 k) (at475 V0 k) (at478 V0 b h w k) (at481 V0 b h w k) (at484 V0 b h w k) (at487 V0 b h w k) (at495 V0 b h w k) (at506 V0 b h w k) (at518 V0 b h w k) (at525 V0 k) (at548 V0 b h w k) (at552 V0 b h w k) (at576 V0 b h w k))
  pointwise
  simp only [neg_eq]

/-- The shift. -/
theorem atN591 (V0 : Valuation τ sig (Elt Ideal)) : (res_main_v591 (F := Ideal) V0 : IVec S_ 32) ix0 = (net V0).rq 1 := by
  pointwise [res_main_v591]
  rfl

/-- Whether the word is negative. -/
theorem at593 (V0 : Valuation τ sig (Elt Ideal)) (b : Fin 193) (h : Fin 12) (w : Fin 16) (k : Fin 96) :
    (res_main_v593 (F := Ideal) V0 : IVec S193x12x16x96 1) (ix4 b h w k)
      = IntOp.cmpi .slt ((res_main_v587 (F := Ideal) V0 : IVec S193x12x16x96 32) (ix4 b h w k)) 0#32 := by
  pointwise [res_main_v593, id_eq]

/-- The sign as a word. -/
theorem at594 (V0 : Valuation τ sig (Elt Ideal)) (b : Fin 193) (h : Fin 12) (w : Fin 16) (k : Fin 96) :
    (res_main_v594 (F := Ideal) V0 : IVec S193x12x16x96 32) (ix4 b h w k)
      = ((res_main_v593 (F := Ideal) V0 : IVec S193x12x16x96 1) (ix4 b h w k)).setWidth 32 := by
  pointwise [res_main_v594, id_eq]

/-- The size of the word. -/
theorem at596 (V0 : Valuation τ sig (Elt Ideal)) (b : Fin 193) (h : Fin 12) (w : Fin 16) (k : Fin 96) :
    (res_main_v596 (F := Ideal) V0 : IVec S193x12x16x96 32) (ix4 b h w k)
      = IntOp.absi ((res_main_v587 (F := Ideal) V0 : IVec S193x12x16x96 32) (ix4 b h w k)) := by
  unfold res_main_v596
  exact absi_at _ _

/-- The multiplier. -/
theorem at597 (V0 : Valuation τ sig (Elt Ideal)) :
    (res_main_v597 (F := Ideal) V0 : IVec S_ 32) ix0
      = (net V0).rq 0 := by
  pointwise [res_main_v597, id_eq]
  rfl

/-- The low limb of the size. -/
theorem at599 (V0 : Valuation τ sig (Elt Ideal)) (b : Fin 193) (h : Fin 12) (w : Fin 16) (k : Fin 96) :
    (res_main_v599 (F := Ideal) V0 : IVec S193x12x16x96 32) (ix4 b h w k)
      = IntOp.andi ((res_main_v596 (F := Ideal) V0 : IVec S193x12x16x96 32) (ix4 b h w k)) 65535#32 := by
  pointwise [res_main_v599, id_eq]

/-- The high limb of the size. -/
theorem at601 (V0 : Valuation τ sig (Elt Ideal)) (b : Fin 193) (h : Fin 12) (w : Fin 16) (k : Fin 96) :
    (res_main_v601 (F := Ideal) V0 : IVec S193x12x16x96 32) (ix4 b h w k)
      = IntOp.shrui .host ((res_main_v596 (F := Ideal) V0 : IVec S193x12x16x96 32) (ix4 b h w k)) 16#32 := by
  pointwise [res_main_v601, id_eq]

/-- The low limb of the multiplier. -/
theorem at602 (V0 : Valuation τ sig (Elt Ideal)) :
    (res_main_v602 (F := Ideal) V0 : IVec S_ 32) ix0
      = IntOp.andi ((res_main_v597 (F := Ideal) V0 : IVec S_ 32) ix0) 65535#32 := by
  pointwise [res_main_v602, id_eq]

/-- The high limb of the multiplier. -/
theorem at603 (V0 : Valuation τ sig (Elt Ideal)) :
    (res_main_v603 (F := Ideal) V0 : IVec S_ 32) ix0
      = IntOp.shrui .host ((res_main_v597 (F := Ideal) V0 : IVec S_ 32) ix0) 16#32 := by
  pointwise [res_main_v603, id_eq]

/-- The product of the low limbs. -/
theorem at605 (V0 : Valuation τ sig (Elt Ideal)) (b : Fin 193) (h : Fin 12) (w : Fin 16) (k : Fin 96) :
    (res_main_v605 (F := Ideal) V0 : IVec S193x12x16x96 32) (ix4 b h w k)
      = IntOp.muli ((res_main_v599 (F := Ideal) V0 : IVec S193x12x16x96 32) (ix4 b h w k)) ((res_main_v602 (F := Ideal) V0 : IVec S_ 32) ix0) := by
  pointwise [res_main_v605, id_eq]

/-- The product of the low limb and the multiplier's high limb. -/
theorem at607 (V0 : Valuation τ sig (Elt Ideal)) (b : Fin 193) (h : Fin 12) (w : Fin 16) (k : Fin 96) :
    (res_main_v607 (F := Ideal) V0 : IVec S193x12x16x96 32) (ix4 b h w k)
      = IntOp.muli ((res_main_v599 (F := Ideal) V0 : IVec S193x12x16x96 32) (ix4 b h w k)) ((res_main_v603 (F := Ideal) V0 : IVec S_ 32) ix0) := by
  pointwise [res_main_v607, id_eq]

/-- The product of the high limb and the multiplier's low limb. -/
theorem at609 (V0 : Valuation τ sig (Elt Ideal)) (b : Fin 193) (h : Fin 12) (w : Fin 16) (k : Fin 96) :
    (res_main_v609 (F := Ideal) V0 : IVec S193x12x16x96 32) (ix4 b h w k)
      = IntOp.muli ((res_main_v601 (F := Ideal) V0 : IVec S193x12x16x96 32) (ix4 b h w k)) ((res_main_v602 (F := Ideal) V0 : IVec S_ 32) ix0) := by
  pointwise [res_main_v609, id_eq]

/-- The product of the high limbs. -/
theorem at611 (V0 : Valuation τ sig (Elt Ideal)) (b : Fin 193) (h : Fin 12) (w : Fin 16) (k : Fin 96) :
    (res_main_v611 (F := Ideal) V0 : IVec S193x12x16x96 32) (ix4 b h w k)
      = IntOp.muli ((res_main_v601 (F := Ideal) V0 : IVec S193x12x16x96 32) (ix4 b h w k)) ((res_main_v603 (F := Ideal) V0 : IVec S_ 32) ix0) := by
  pointwise [res_main_v611, id_eq]

/-- The second limb of the product, with its carry. -/
theorem at619 (V0 : Valuation τ sig (Elt Ideal)) (b : Fin 193) (h : Fin 12) (w : Fin 16) (k : Fin 96) :
    (res_main_v619 (F := Ideal) V0 : IVec S193x12x16x96 32) (ix4 b h w k)
      = IntOp.addi (IntOp.addi (IntOp.shrui .host ((res_main_v605 (F := Ideal) V0 : IVec S193x12x16x96 32) (ix4 b h w k)) 16#32) (IntOp.andi ((res_main_v607 (F := Ideal) V0 : IVec S193x12x16x96 32) (ix4 b h w k)) 65535#32)) (IntOp.andi ((res_main_v609 (F := Ideal) V0 : IVec S193x12x16x96 32) (ix4 b h w k)) 65535#32) := by
  pointwise [res_main_v619, id_eq]

/-- The third limb of the product, with its carry. -/
theorem at630 (V0 : Valuation τ sig (Elt Ideal)) (b : Fin 193) (h : Fin 12) (w : Fin 16) (k : Fin 96) :
    (res_main_v630 (F := Ideal) V0 : IVec S193x12x16x96 32) (ix4 b h w k)
      = IntOp.addi (IntOp.addi (IntOp.addi (IntOp.shrui .host ((res_main_v619 (F := Ideal) V0 : IVec S193x12x16x96 32) (ix4 b h w k)) 16#32) (IntOp.shrui .host ((res_main_v607 (F := Ideal) V0 : IVec S193x12x16x96 32) (ix4 b h w k)) 16#32)) (IntOp.shrui .host ((res_main_v609 (F := Ideal) V0 : IVec S193x12x16x96 32) (ix4 b h w k)) 16#32)) (IntOp.andi ((res_main_v611 (F := Ideal) V0 : IVec S193x12x16x96 32) (ix4 b h w k)) 65535#32) := by
  pointwise [res_main_v630, id_eq]

/-- The low word of the product. -/
theorem at642 (V0 : Valuation τ sig (Elt Ideal)) (b : Fin 193) (h : Fin 12) (w : Fin 16) (k : Fin 96) :
    (res_main_v642 (F := Ideal) V0 : IVec S193x12x16x96 32) (ix4 b h w k)
      = IntOp.ori (IntOp.andi ((res_main_v605 (F := Ideal) V0 : IVec S193x12x16x96 32) (ix4 b h w k)) 65535#32) (IntOp.shli .host (IntOp.andi ((res_main_v619 (F := Ideal) V0 : IVec S193x12x16x96 32) (ix4 b h w k)) 65535#32) 16#32) := by
  pointwise [res_main_v642, id_eq]

/-- Whether the rounding addend lies in the high word. -/
theorem at648 (V0 : Valuation τ sig (Elt Ideal)) :
    (res_main_v648 (F := Ideal) V0 : IVec S_ 1) ix0
      = IntOp.cmpi .sge ((net V0).rq 1) 33#32 := by
  rw [← atN591]
  pointwise [res_main_v648, id_eq]

/-- The low word with the rounding addend. -/
theorem at665 (V0 : Valuation τ sig (Elt Ideal)) (b : Fin 193) (h : Fin 12) (w : Fin 16) (k : Fin 96) :
    (res_main_v665 (F := Ideal) V0 : IVec S193x12x16x96 32) (ix4 b h w k)
      = IntOp.addi ((res_main_v642 (F := Ideal) V0 : IVec S193x12x16x96 32) (ix4 b h w k)) (Scalar.select ((res_main_v648 (F := Ideal) V0 : IVec S_ 1) ix0) (IntOp.subi 0#32 ((res_main_v594 (F := Ideal) V0 : IVec S193x12x16x96 32) (ix4 b h w k))) (IntOp.subi (IntOp.shli .host 1#32 (IntOp.minsi 31#32 (IntOp.maxsi 0#32 (IntOp.subi ((net V0).rq 1) 1#32)))) ((res_main_v594 (F := Ideal) V0 : IVec S193x12x16x96 32) (ix4 b h w k)))) := by
  rw [← atN591]
  pointwise [res_main_v665, id_eq]

/-- The high word with the rounding addend and the carry. -/
theorem at669 (V0 : Valuation τ sig (Elt Ideal)) (b : Fin 193) (h : Fin 12) (w : Fin 16) (k : Fin 96) :
    (res_main_v669 (F := Ideal) V0 : IVec S193x12x16x96 32) (ix4 b h w k)
      = IntOp.addi (IntOp.addi (IntOp.ori (IntOp.andi ((res_main_v630 (F := Ideal) V0 : IVec S193x12x16x96 32) (ix4 b h w k)) 65535#32) (IntOp.shli .host (IntOp.addi (IntOp.shrui .host ((res_main_v630 (F := Ideal) V0 : IVec S193x12x16x96 32) (ix4 b h w k)) 16#32) (IntOp.shrui .host ((res_main_v611 (F := Ideal) V0 : IVec S193x12x16x96 32) (ix4 b h w k)) 16#32)) 16#32)) (Scalar.select ((res_main_v648 (F := Ideal) V0 : IVec S_ 1) ix0) (IntOp.subi (IntOp.shli .host 1#32 (IntOp.minsi 31#32 (IntOp.maxsi 0#32 (IntOp.subi ((net V0).rq 1) 33#32)))) ((res_main_v594 (F := Ideal) V0 : IVec S193x12x16x96 32) (ix4 b h w k))) 0#32)) ((IntOp.cmpi .ult ((res_main_v665 (F := Ideal) V0 : IVec S193x12x16x96 32) (ix4 b h w k)) ((res_main_v642 (F := Ideal) V0 : IVec S193x12x16x96 32) (ix4 b h w k))).setWidth 32) := by
  rw [← atN591]
  pointwise [res_main_v669, id_eq]

/-- The shifted word, before its sign. -/
theorem at687 (V0 : Valuation τ sig (Elt Ideal)) (b : Fin 193) (h : Fin 12) (w : Fin 16) (k : Fin 96) :
    (res_main_v687 (F := Ideal) V0 : IVec S193x12x16x96 32) (ix4 b h w k)
      = Scalar.select (IntOp.cmpi .slt ((net V0).rq 1) 32#32) (IntOp.ori (IntOp.shrui .host ((res_main_v665 (F := Ideal) V0 : IVec S193x12x16x96 32) (ix4 b h w k)) (IntOp.minsi 31#32 (IntOp.maxsi 0#32 ((net V0).rq 1)))) (IntOp.shli .host ((res_main_v669 (F := Ideal) V0 : IVec S193x12x16x96 32) (ix4 b h w k)) (IntOp.minsi 31#32 (IntOp.maxsi 0#32 (IntOp.subi 32#32 ((net V0).rq 1)))))) (IntOp.shrui .host ((res_main_v669 (F := Ideal) V0 : IVec S193x12x16x96 32) (ix4 b h w k)) (IntOp.minsi 31#32 (IntOp.maxsi 0#32 (IntOp.subi ((net V0).rq 1) 32#32)))) := by
  rw [← atN591]
  pointwise [res_main_v687, id_eq]

/-- The rescaling of the residual input's share. -/
theorem rs4 (k : Fin 96) :
    (select (s := S193x12x16x96) (res_main_v593 (F := Ideal) V0) (negi (res_main_v687 (F := Ideal) V0)) (res_main_v687 (F := Ideal) V0) : IVec S193x12x16x96 32) (ix4 b h w k)
      = rs ((res_main_v587 (F := Ideal) V0 : IVec S193x12x16x96 32) (ix4 b h w k)) ((net V0).rq 0) ((net V0).rq 1) := by
  refine Eq.trans ?_ (rs_of (at593 V0 b h w k) (at594 V0 b h w k) (at596 V0 b h w k) (at597 V0) (at599 V0 b h w k) (at601 V0 b h w k) (at602 V0) (at603 V0) (at605 V0 b h w k) (at607 V0 b h w k) (at609 V0 b h w k) (at611 V0 b h w k) (at619 V0 b h w k) (at630 V0 b h w k) (at642 V0 b h w k) (at648 V0) (at665 V0 b h w k) (at669 V0 b h w k) (at687 V0 b h w k))
  pointwise
  simp only [neg_eq]

/-- The shift. -/
theorem atN698 (V0 : Valuation τ sig (Elt Ideal)) : (res_main_v698 (F := Ideal) V0 : IVec S_ 32) ix0 = (net V0).rq 3 := by
  pointwise [res_main_v698]
  rfl

/-- Whether the word is negative. -/
theorem at700 (V0 : Valuation τ sig (Elt Ideal)) (b : Fin 193) (h : Fin 12) (w : Fin 16) (k : Fin 96) :
    (res_main_v700 (F := Ideal) V0 : IVec S193x12x16x96 1) (ix4 b h w k)
      = IntOp.cmpi .slt ((res_main_v694 (F := Ideal) V0 : IVec S193x12x16x96 32) (ix4 b h w k)) 0#32 := by
  pointwise [res_main_v700, id_eq]

/-- The sign as a word. -/
theorem at701 (V0 : Valuation τ sig (Elt Ideal)) (b : Fin 193) (h : Fin 12) (w : Fin 16) (k : Fin 96) :
    (res_main_v701 (F := Ideal) V0 : IVec S193x12x16x96 32) (ix4 b h w k)
      = ((res_main_v700 (F := Ideal) V0 : IVec S193x12x16x96 1) (ix4 b h w k)).setWidth 32 := by
  pointwise [res_main_v701, id_eq]

/-- The size of the word. -/
theorem at703 (V0 : Valuation τ sig (Elt Ideal)) (b : Fin 193) (h : Fin 12) (w : Fin 16) (k : Fin 96) :
    (res_main_v703 (F := Ideal) V0 : IVec S193x12x16x96 32) (ix4 b h w k)
      = IntOp.absi ((res_main_v694 (F := Ideal) V0 : IVec S193x12x16x96 32) (ix4 b h w k)) := by
  unfold res_main_v703
  exact absi_at _ _

/-- The multiplier. -/
theorem at704 (V0 : Valuation τ sig (Elt Ideal)) :
    (res_main_v704 (F := Ideal) V0 : IVec S_ 32) ix0
      = (net V0).rq 2 := by
  pointwise [res_main_v704, id_eq]
  rfl

/-- The low limb of the size. -/
theorem at706 (V0 : Valuation τ sig (Elt Ideal)) (b : Fin 193) (h : Fin 12) (w : Fin 16) (k : Fin 96) :
    (res_main_v706 (F := Ideal) V0 : IVec S193x12x16x96 32) (ix4 b h w k)
      = IntOp.andi ((res_main_v703 (F := Ideal) V0 : IVec S193x12x16x96 32) (ix4 b h w k)) 65535#32 := by
  pointwise [res_main_v706, id_eq]

/-- The high limb of the size. -/
theorem at708 (V0 : Valuation τ sig (Elt Ideal)) (b : Fin 193) (h : Fin 12) (w : Fin 16) (k : Fin 96) :
    (res_main_v708 (F := Ideal) V0 : IVec S193x12x16x96 32) (ix4 b h w k)
      = IntOp.shrui .host ((res_main_v703 (F := Ideal) V0 : IVec S193x12x16x96 32) (ix4 b h w k)) 16#32 := by
  pointwise [res_main_v708, id_eq]

/-- The low limb of the multiplier. -/
theorem at709 (V0 : Valuation τ sig (Elt Ideal)) :
    (res_main_v709 (F := Ideal) V0 : IVec S_ 32) ix0
      = IntOp.andi ((res_main_v704 (F := Ideal) V0 : IVec S_ 32) ix0) 65535#32 := by
  pointwise [res_main_v709, id_eq]

/-- The high limb of the multiplier. -/
theorem at710 (V0 : Valuation τ sig (Elt Ideal)) :
    (res_main_v710 (F := Ideal) V0 : IVec S_ 32) ix0
      = IntOp.shrui .host ((res_main_v704 (F := Ideal) V0 : IVec S_ 32) ix0) 16#32 := by
  pointwise [res_main_v710, id_eq]

/-- The product of the low limbs. -/
theorem at712 (V0 : Valuation τ sig (Elt Ideal)) (b : Fin 193) (h : Fin 12) (w : Fin 16) (k : Fin 96) :
    (res_main_v712 (F := Ideal) V0 : IVec S193x12x16x96 32) (ix4 b h w k)
      = IntOp.muli ((res_main_v706 (F := Ideal) V0 : IVec S193x12x16x96 32) (ix4 b h w k)) ((res_main_v709 (F := Ideal) V0 : IVec S_ 32) ix0) := by
  pointwise [res_main_v712, id_eq]

/-- The product of the low limb and the multiplier's high limb. -/
theorem at714 (V0 : Valuation τ sig (Elt Ideal)) (b : Fin 193) (h : Fin 12) (w : Fin 16) (k : Fin 96) :
    (res_main_v714 (F := Ideal) V0 : IVec S193x12x16x96 32) (ix4 b h w k)
      = IntOp.muli ((res_main_v706 (F := Ideal) V0 : IVec S193x12x16x96 32) (ix4 b h w k)) ((res_main_v710 (F := Ideal) V0 : IVec S_ 32) ix0) := by
  pointwise [res_main_v714, id_eq]

/-- The product of the high limb and the multiplier's low limb. -/
theorem at716 (V0 : Valuation τ sig (Elt Ideal)) (b : Fin 193) (h : Fin 12) (w : Fin 16) (k : Fin 96) :
    (res_main_v716 (F := Ideal) V0 : IVec S193x12x16x96 32) (ix4 b h w k)
      = IntOp.muli ((res_main_v708 (F := Ideal) V0 : IVec S193x12x16x96 32) (ix4 b h w k)) ((res_main_v709 (F := Ideal) V0 : IVec S_ 32) ix0) := by
  pointwise [res_main_v716, id_eq]

/-- The product of the high limbs. -/
theorem at718 (V0 : Valuation τ sig (Elt Ideal)) (b : Fin 193) (h : Fin 12) (w : Fin 16) (k : Fin 96) :
    (res_main_v718 (F := Ideal) V0 : IVec S193x12x16x96 32) (ix4 b h w k)
      = IntOp.muli ((res_main_v708 (F := Ideal) V0 : IVec S193x12x16x96 32) (ix4 b h w k)) ((res_main_v710 (F := Ideal) V0 : IVec S_ 32) ix0) := by
  pointwise [res_main_v718, id_eq]

/-- The second limb of the product, with its carry. -/
theorem at726 (V0 : Valuation τ sig (Elt Ideal)) (b : Fin 193) (h : Fin 12) (w : Fin 16) (k : Fin 96) :
    (res_main_v726 (F := Ideal) V0 : IVec S193x12x16x96 32) (ix4 b h w k)
      = IntOp.addi (IntOp.addi (IntOp.shrui .host ((res_main_v712 (F := Ideal) V0 : IVec S193x12x16x96 32) (ix4 b h w k)) 16#32) (IntOp.andi ((res_main_v714 (F := Ideal) V0 : IVec S193x12x16x96 32) (ix4 b h w k)) 65535#32)) (IntOp.andi ((res_main_v716 (F := Ideal) V0 : IVec S193x12x16x96 32) (ix4 b h w k)) 65535#32) := by
  pointwise [res_main_v726, id_eq]

/-- The third limb of the product, with its carry. -/
theorem at737 (V0 : Valuation τ sig (Elt Ideal)) (b : Fin 193) (h : Fin 12) (w : Fin 16) (k : Fin 96) :
    (res_main_v737 (F := Ideal) V0 : IVec S193x12x16x96 32) (ix4 b h w k)
      = IntOp.addi (IntOp.addi (IntOp.addi (IntOp.shrui .host ((res_main_v726 (F := Ideal) V0 : IVec S193x12x16x96 32) (ix4 b h w k)) 16#32) (IntOp.shrui .host ((res_main_v714 (F := Ideal) V0 : IVec S193x12x16x96 32) (ix4 b h w k)) 16#32)) (IntOp.shrui .host ((res_main_v716 (F := Ideal) V0 : IVec S193x12x16x96 32) (ix4 b h w k)) 16#32)) (IntOp.andi ((res_main_v718 (F := Ideal) V0 : IVec S193x12x16x96 32) (ix4 b h w k)) 65535#32) := by
  pointwise [res_main_v737, id_eq]

/-- The low word of the product. -/
theorem at749 (V0 : Valuation τ sig (Elt Ideal)) (b : Fin 193) (h : Fin 12) (w : Fin 16) (k : Fin 96) :
    (res_main_v749 (F := Ideal) V0 : IVec S193x12x16x96 32) (ix4 b h w k)
      = IntOp.ori (IntOp.andi ((res_main_v712 (F := Ideal) V0 : IVec S193x12x16x96 32) (ix4 b h w k)) 65535#32) (IntOp.shli .host (IntOp.andi ((res_main_v726 (F := Ideal) V0 : IVec S193x12x16x96 32) (ix4 b h w k)) 65535#32) 16#32) := by
  pointwise [res_main_v749, id_eq]

/-- Whether the rounding addend lies in the high word. -/
theorem at755 (V0 : Valuation τ sig (Elt Ideal)) :
    (res_main_v755 (F := Ideal) V0 : IVec S_ 1) ix0
      = IntOp.cmpi .sge ((net V0).rq 3) 33#32 := by
  rw [← atN698]
  pointwise [res_main_v755, id_eq]

/-- The low word with the rounding addend. -/
theorem at772 (V0 : Valuation τ sig (Elt Ideal)) (b : Fin 193) (h : Fin 12) (w : Fin 16) (k : Fin 96) :
    (res_main_v772 (F := Ideal) V0 : IVec S193x12x16x96 32) (ix4 b h w k)
      = IntOp.addi ((res_main_v749 (F := Ideal) V0 : IVec S193x12x16x96 32) (ix4 b h w k)) (Scalar.select ((res_main_v755 (F := Ideal) V0 : IVec S_ 1) ix0) (IntOp.subi 0#32 ((res_main_v701 (F := Ideal) V0 : IVec S193x12x16x96 32) (ix4 b h w k))) (IntOp.subi (IntOp.shli .host 1#32 (IntOp.minsi 31#32 (IntOp.maxsi 0#32 (IntOp.subi ((net V0).rq 3) 1#32)))) ((res_main_v701 (F := Ideal) V0 : IVec S193x12x16x96 32) (ix4 b h w k)))) := by
  rw [← atN698]
  pointwise [res_main_v772, id_eq]

/-- The high word with the rounding addend and the carry. -/
theorem at776 (V0 : Valuation τ sig (Elt Ideal)) (b : Fin 193) (h : Fin 12) (w : Fin 16) (k : Fin 96) :
    (res_main_v776 (F := Ideal) V0 : IVec S193x12x16x96 32) (ix4 b h w k)
      = IntOp.addi (IntOp.addi (IntOp.ori (IntOp.andi ((res_main_v737 (F := Ideal) V0 : IVec S193x12x16x96 32) (ix4 b h w k)) 65535#32) (IntOp.shli .host (IntOp.addi (IntOp.shrui .host ((res_main_v737 (F := Ideal) V0 : IVec S193x12x16x96 32) (ix4 b h w k)) 16#32) (IntOp.shrui .host ((res_main_v718 (F := Ideal) V0 : IVec S193x12x16x96 32) (ix4 b h w k)) 16#32)) 16#32)) (Scalar.select ((res_main_v755 (F := Ideal) V0 : IVec S_ 1) ix0) (IntOp.subi (IntOp.shli .host 1#32 (IntOp.minsi 31#32 (IntOp.maxsi 0#32 (IntOp.subi ((net V0).rq 3) 33#32)))) ((res_main_v701 (F := Ideal) V0 : IVec S193x12x16x96 32) (ix4 b h w k))) 0#32)) ((IntOp.cmpi .ult ((res_main_v772 (F := Ideal) V0 : IVec S193x12x16x96 32) (ix4 b h w k)) ((res_main_v749 (F := Ideal) V0 : IVec S193x12x16x96 32) (ix4 b h w k))).setWidth 32) := by
  rw [← atN698]
  pointwise [res_main_v776, id_eq]

/-- The shifted word, before its sign. -/
theorem at794 (V0 : Valuation τ sig (Elt Ideal)) (b : Fin 193) (h : Fin 12) (w : Fin 16) (k : Fin 96) :
    (res_main_v794 (F := Ideal) V0 : IVec S193x12x16x96 32) (ix4 b h w k)
      = Scalar.select (IntOp.cmpi .slt ((net V0).rq 3) 32#32) (IntOp.ori (IntOp.shrui .host ((res_main_v772 (F := Ideal) V0 : IVec S193x12x16x96 32) (ix4 b h w k)) (IntOp.minsi 31#32 (IntOp.maxsi 0#32 ((net V0).rq 3)))) (IntOp.shli .host ((res_main_v776 (F := Ideal) V0 : IVec S193x12x16x96 32) (ix4 b h w k)) (IntOp.minsi 31#32 (IntOp.maxsi 0#32 (IntOp.subi 32#32 ((net V0).rq 3)))))) (IntOp.shrui .host ((res_main_v776 (F := Ideal) V0 : IVec S193x12x16x96 32) (ix4 b h w k)) (IntOp.minsi 31#32 (IntOp.maxsi 0#32 (IntOp.subi ((net V0).rq 3) 32#32)))) := by
  rw [← atN698]
  pointwise [res_main_v794, id_eq]

/-- The rescaling of the projection's share. -/
theorem rs5 (k : Fin 96) :
    (select (s := S193x12x16x96) (res_main_v700 (F := Ideal) V0) (negi (res_main_v794 (F := Ideal) V0)) (res_main_v794 (F := Ideal) V0) : IVec S193x12x16x96 32) (ix4 b h w k)
      = rs ((res_main_v694 (F := Ideal) V0 : IVec S193x12x16x96 32) (ix4 b h w k)) ((net V0).rq 2) ((net V0).rq 3) := by
  refine Eq.trans ?_ (rs_of (at700 V0 b h w k) (at701 V0 b h w k) (at703 V0 b h w k) (at704 V0) (at706 V0 b h w k) (at708 V0 b h w k) (at709 V0) (at710 V0) (at712 V0 b h w k) (at714 V0 b h w k) (at716 V0 b h w k) (at718 V0 b h w k) (at726 V0 b h w k) (at737 V0 b h w k) (at749 V0 b h w k) (at755 V0) (at772 V0 b h w k) (at776 V0 b h w k) (at794 V0 b h w k))
  pointwise
  simp only [neg_eq]

/-- The shift. -/
theorem atN801 (V0 : Valuation τ sig (Elt Ideal)) : (res_main_v801 (F := Ideal) V0 : IVec S_ 32) ix0 = (net V0).rq 5 := by
  pointwise [res_main_v801]
  rfl

/-- Whether the word is negative. -/
theorem at803 (V0 : Valuation τ sig (Elt Ideal)) (b : Fin 193) (h : Fin 12) (w : Fin 16) (k : Fin 96) :
    (res_main_v803 (F := Ideal) V0 : IVec S193x12x16x96 1) (ix4 b h w k)
      = IntOp.cmpi .slt ((res_main_v797 (F := Ideal) V0 : IVec S193x12x16x96 32) (ix4 b h w k)) 0#32 := by
  pointwise [res_main_v803, id_eq]

/-- The sign as a word. -/
theorem at804 (V0 : Valuation τ sig (Elt Ideal)) (b : Fin 193) (h : Fin 12) (w : Fin 16) (k : Fin 96) :
    (res_main_v804 (F := Ideal) V0 : IVec S193x12x16x96 32) (ix4 b h w k)
      = ((res_main_v803 (F := Ideal) V0 : IVec S193x12x16x96 1) (ix4 b h w k)).setWidth 32 := by
  pointwise [res_main_v804, id_eq]

/-- The size of the word. -/
theorem at806 (V0 : Valuation τ sig (Elt Ideal)) (b : Fin 193) (h : Fin 12) (w : Fin 16) (k : Fin 96) :
    (res_main_v806 (F := Ideal) V0 : IVec S193x12x16x96 32) (ix4 b h w k)
      = IntOp.absi ((res_main_v797 (F := Ideal) V0 : IVec S193x12x16x96 32) (ix4 b h w k)) := by
  unfold res_main_v806
  exact absi_at _ _

/-- The multiplier. -/
theorem at807 (V0 : Valuation τ sig (Elt Ideal)) :
    (res_main_v807 (F := Ideal) V0 : IVec S_ 32) ix0
      = (net V0).rq 4 := by
  pointwise [res_main_v807, id_eq]
  rfl

/-- The low limb of the size. -/
theorem at809 (V0 : Valuation τ sig (Elt Ideal)) (b : Fin 193) (h : Fin 12) (w : Fin 16) (k : Fin 96) :
    (res_main_v809 (F := Ideal) V0 : IVec S193x12x16x96 32) (ix4 b h w k)
      = IntOp.andi ((res_main_v806 (F := Ideal) V0 : IVec S193x12x16x96 32) (ix4 b h w k)) 65535#32 := by
  pointwise [res_main_v809, id_eq]

/-- The high limb of the size. -/
theorem at811 (V0 : Valuation τ sig (Elt Ideal)) (b : Fin 193) (h : Fin 12) (w : Fin 16) (k : Fin 96) :
    (res_main_v811 (F := Ideal) V0 : IVec S193x12x16x96 32) (ix4 b h w k)
      = IntOp.shrui .host ((res_main_v806 (F := Ideal) V0 : IVec S193x12x16x96 32) (ix4 b h w k)) 16#32 := by
  pointwise [res_main_v811, id_eq]

/-- The low limb of the multiplier. -/
theorem at812 (V0 : Valuation τ sig (Elt Ideal)) :
    (res_main_v812 (F := Ideal) V0 : IVec S_ 32) ix0
      = IntOp.andi ((res_main_v807 (F := Ideal) V0 : IVec S_ 32) ix0) 65535#32 := by
  pointwise [res_main_v812, id_eq]

/-- The high limb of the multiplier. -/
theorem at813 (V0 : Valuation τ sig (Elt Ideal)) :
    (res_main_v813 (F := Ideal) V0 : IVec S_ 32) ix0
      = IntOp.shrui .host ((res_main_v807 (F := Ideal) V0 : IVec S_ 32) ix0) 16#32 := by
  pointwise [res_main_v813, id_eq]

/-- The product of the low limbs. -/
theorem at815 (V0 : Valuation τ sig (Elt Ideal)) (b : Fin 193) (h : Fin 12) (w : Fin 16) (k : Fin 96) :
    (res_main_v815 (F := Ideal) V0 : IVec S193x12x16x96 32) (ix4 b h w k)
      = IntOp.muli ((res_main_v809 (F := Ideal) V0 : IVec S193x12x16x96 32) (ix4 b h w k)) ((res_main_v812 (F := Ideal) V0 : IVec S_ 32) ix0) := by
  pointwise [res_main_v815, id_eq]

/-- The product of the low limb and the multiplier's high limb. -/
theorem at817 (V0 : Valuation τ sig (Elt Ideal)) (b : Fin 193) (h : Fin 12) (w : Fin 16) (k : Fin 96) :
    (res_main_v817 (F := Ideal) V0 : IVec S193x12x16x96 32) (ix4 b h w k)
      = IntOp.muli ((res_main_v809 (F := Ideal) V0 : IVec S193x12x16x96 32) (ix4 b h w k)) ((res_main_v813 (F := Ideal) V0 : IVec S_ 32) ix0) := by
  pointwise [res_main_v817, id_eq]

/-- The product of the high limb and the multiplier's low limb. -/
theorem at819 (V0 : Valuation τ sig (Elt Ideal)) (b : Fin 193) (h : Fin 12) (w : Fin 16) (k : Fin 96) :
    (res_main_v819 (F := Ideal) V0 : IVec S193x12x16x96 32) (ix4 b h w k)
      = IntOp.muli ((res_main_v811 (F := Ideal) V0 : IVec S193x12x16x96 32) (ix4 b h w k)) ((res_main_v812 (F := Ideal) V0 : IVec S_ 32) ix0) := by
  pointwise [res_main_v819, id_eq]

/-- The product of the high limbs. -/
theorem at821 (V0 : Valuation τ sig (Elt Ideal)) (b : Fin 193) (h : Fin 12) (w : Fin 16) (k : Fin 96) :
    (res_main_v821 (F := Ideal) V0 : IVec S193x12x16x96 32) (ix4 b h w k)
      = IntOp.muli ((res_main_v811 (F := Ideal) V0 : IVec S193x12x16x96 32) (ix4 b h w k)) ((res_main_v813 (F := Ideal) V0 : IVec S_ 32) ix0) := by
  pointwise [res_main_v821, id_eq]

/-- The second limb of the product, with its carry. -/
theorem at829 (V0 : Valuation τ sig (Elt Ideal)) (b : Fin 193) (h : Fin 12) (w : Fin 16) (k : Fin 96) :
    (res_main_v829 (F := Ideal) V0 : IVec S193x12x16x96 32) (ix4 b h w k)
      = IntOp.addi (IntOp.addi (IntOp.shrui .host ((res_main_v815 (F := Ideal) V0 : IVec S193x12x16x96 32) (ix4 b h w k)) 16#32) (IntOp.andi ((res_main_v817 (F := Ideal) V0 : IVec S193x12x16x96 32) (ix4 b h w k)) 65535#32)) (IntOp.andi ((res_main_v819 (F := Ideal) V0 : IVec S193x12x16x96 32) (ix4 b h w k)) 65535#32) := by
  pointwise [res_main_v829, id_eq]

/-- The third limb of the product, with its carry. -/
theorem at840 (V0 : Valuation τ sig (Elt Ideal)) (b : Fin 193) (h : Fin 12) (w : Fin 16) (k : Fin 96) :
    (res_main_v840 (F := Ideal) V0 : IVec S193x12x16x96 32) (ix4 b h w k)
      = IntOp.addi (IntOp.addi (IntOp.addi (IntOp.shrui .host ((res_main_v829 (F := Ideal) V0 : IVec S193x12x16x96 32) (ix4 b h w k)) 16#32) (IntOp.shrui .host ((res_main_v817 (F := Ideal) V0 : IVec S193x12x16x96 32) (ix4 b h w k)) 16#32)) (IntOp.shrui .host ((res_main_v819 (F := Ideal) V0 : IVec S193x12x16x96 32) (ix4 b h w k)) 16#32)) (IntOp.andi ((res_main_v821 (F := Ideal) V0 : IVec S193x12x16x96 32) (ix4 b h w k)) 65535#32) := by
  pointwise [res_main_v840, id_eq]

/-- The low word of the product. -/
theorem at852 (V0 : Valuation τ sig (Elt Ideal)) (b : Fin 193) (h : Fin 12) (w : Fin 16) (k : Fin 96) :
    (res_main_v852 (F := Ideal) V0 : IVec S193x12x16x96 32) (ix4 b h w k)
      = IntOp.ori (IntOp.andi ((res_main_v815 (F := Ideal) V0 : IVec S193x12x16x96 32) (ix4 b h w k)) 65535#32) (IntOp.shli .host (IntOp.andi ((res_main_v829 (F := Ideal) V0 : IVec S193x12x16x96 32) (ix4 b h w k)) 65535#32) 16#32) := by
  pointwise [res_main_v852, id_eq]

/-- Whether the rounding addend lies in the high word. -/
theorem at858 (V0 : Valuation τ sig (Elt Ideal)) :
    (res_main_v858 (F := Ideal) V0 : IVec S_ 1) ix0
      = IntOp.cmpi .sge ((net V0).rq 5) 33#32 := by
  rw [← atN801]
  pointwise [res_main_v858, id_eq]

/-- The low word with the rounding addend. -/
theorem at875 (V0 : Valuation τ sig (Elt Ideal)) (b : Fin 193) (h : Fin 12) (w : Fin 16) (k : Fin 96) :
    (res_main_v875 (F := Ideal) V0 : IVec S193x12x16x96 32) (ix4 b h w k)
      = IntOp.addi ((res_main_v852 (F := Ideal) V0 : IVec S193x12x16x96 32) (ix4 b h w k)) (Scalar.select ((res_main_v858 (F := Ideal) V0 : IVec S_ 1) ix0) (IntOp.subi 0#32 ((res_main_v804 (F := Ideal) V0 : IVec S193x12x16x96 32) (ix4 b h w k))) (IntOp.subi (IntOp.shli .host 1#32 (IntOp.minsi 31#32 (IntOp.maxsi 0#32 (IntOp.subi ((net V0).rq 5) 1#32)))) ((res_main_v804 (F := Ideal) V0 : IVec S193x12x16x96 32) (ix4 b h w k)))) := by
  rw [← atN801]
  pointwise [res_main_v875, id_eq]

/-- The high word with the rounding addend and the carry. -/
theorem at879 (V0 : Valuation τ sig (Elt Ideal)) (b : Fin 193) (h : Fin 12) (w : Fin 16) (k : Fin 96) :
    (res_main_v879 (F := Ideal) V0 : IVec S193x12x16x96 32) (ix4 b h w k)
      = IntOp.addi (IntOp.addi (IntOp.ori (IntOp.andi ((res_main_v840 (F := Ideal) V0 : IVec S193x12x16x96 32) (ix4 b h w k)) 65535#32) (IntOp.shli .host (IntOp.addi (IntOp.shrui .host ((res_main_v840 (F := Ideal) V0 : IVec S193x12x16x96 32) (ix4 b h w k)) 16#32) (IntOp.shrui .host ((res_main_v821 (F := Ideal) V0 : IVec S193x12x16x96 32) (ix4 b h w k)) 16#32)) 16#32)) (Scalar.select ((res_main_v858 (F := Ideal) V0 : IVec S_ 1) ix0) (IntOp.subi (IntOp.shli .host 1#32 (IntOp.minsi 31#32 (IntOp.maxsi 0#32 (IntOp.subi ((net V0).rq 5) 33#32)))) ((res_main_v804 (F := Ideal) V0 : IVec S193x12x16x96 32) (ix4 b h w k))) 0#32)) ((IntOp.cmpi .ult ((res_main_v875 (F := Ideal) V0 : IVec S193x12x16x96 32) (ix4 b h w k)) ((res_main_v852 (F := Ideal) V0 : IVec S193x12x16x96 32) (ix4 b h w k))).setWidth 32) := by
  rw [← atN801]
  pointwise [res_main_v879, id_eq]

/-- The shifted word, before its sign. -/
theorem at897 (V0 : Valuation τ sig (Elt Ideal)) (b : Fin 193) (h : Fin 12) (w : Fin 16) (k : Fin 96) :
    (res_main_v897 (F := Ideal) V0 : IVec S193x12x16x96 32) (ix4 b h w k)
      = Scalar.select (IntOp.cmpi .slt ((net V0).rq 5) 32#32) (IntOp.ori (IntOp.shrui .host ((res_main_v875 (F := Ideal) V0 : IVec S193x12x16x96 32) (ix4 b h w k)) (IntOp.minsi 31#32 (IntOp.maxsi 0#32 ((net V0).rq 5)))) (IntOp.shli .host ((res_main_v879 (F := Ideal) V0 : IVec S193x12x16x96 32) (ix4 b h w k)) (IntOp.minsi 31#32 (IntOp.maxsi 0#32 (IntOp.subi 32#32 ((net V0).rq 5)))))) (IntOp.shrui .host ((res_main_v879 (F := Ideal) V0 : IVec S193x12x16x96 32) (ix4 b h w k)) (IntOp.minsi 31#32 (IntOp.maxsi 0#32 (IntOp.subi ((net V0).rq 5) 32#32)))) := by
  rw [← atN801]
  pointwise [res_main_v897, id_eq]

/-- The rescaling of the residual sum. -/
theorem rs6 (k : Fin 96) :
    (select (s := S193x12x16x96) (res_main_v803 (F := Ideal) V0) (negi (res_main_v897 (F := Ideal) V0)) (res_main_v897 (F := Ideal) V0) : IVec S193x12x16x96 32) (ix4 b h w k)
      = rs ((res_main_v797 (F := Ideal) V0 : IVec S193x12x16x96 32) (ix4 b h w k)) ((net V0).rq 4) ((net V0).rq 5) := by
  refine Eq.trans ?_ (rs_of (at803 V0 b h w k) (at804 V0 b h w k) (at806 V0 b h w k) (at807 V0) (at809 V0 b h w k) (at811 V0 b h w k) (at812 V0) (at813 V0) (at815 V0 b h w k) (at817 V0 b h w k) (at819 V0 b h w k) (at821 V0 b h w k) (at829 V0 b h w k) (at840 V0 b h w k) (at852 V0 b h w k) (at858 V0) (at875 V0 b h w k) (at879 V0 b h w k) (at897 V0 b h w k))
  pointwise
  simp only [neg_eq]

end Cert.Proof.Ref

end
-- ==== Proof.RefValue.lean ====
/-
  The reference's two results are the arrays of the network of its arguments.
-/
module

public import proofs.«01_k».proof.Proof.RefRescale
public import proofs.«01_k».proof.Proof.Taps
public import Idealize.ShloMosaic.Lib.Tactic.CleanTypes

@[expose] public section

set_option maxRecDepth 16384

noncomputable section

namespace Cert.Proof.Ref

open Idealize.ShloMosaic Idealize.ShloMosaic.StableHlo Cert.ReferenceIdeal Cert.ReferenceIdeal.Gen Cert.ReferenceIdeal.Value
open Cert.Proof.Taps (sum25)
open Cert.Proof.Words Cert.Proof.Sums Cert.Proof.Spec

variable (V0 : Valuation τ sig (Elt Ideal)) (b : Fin 193) (h : Fin 12) (w : Fin 16)

/-- The expansion's accumulator. -/
theorem acc1 (k : Fin 576) : (res_main_v17 (F := Ideal) V0 : IVec S193x12x16x576 32) (ix4 b h w k)
    = (∑ i, ((net V0).X b h w i).signExtend 32 * ((net V0).WE i k).signExtend 32)
      - (net V0).xz * (∑ i, ((net V0).WE i k).signExtend 32) + (net V0).bE k := by
  unfold res_main_v17
  clean_types
  pointwise
  simp only [fold_addi]
  rfl

/-- The padded expansion, for an int8 zero point. -/
theorem padded (hN : (net V0).Small) (i : Fin 16) (j : Fin 20) (k : Fin 576) :
    (res_main_v143 (F := Ideal) V0 : IVec S193x16x20x576 32) (ix4 b i j k) = (net V0).pad b i.1 j.1 k := by
  unfold Net.pad Net.e
  split
  · rename_i hij
    have h1 := rs1 V0 b ⟨i.1 - 2, by omega⟩ ⟨j.1 - 2, by omega⟩ k
    rw [acc1] at h1
    rw [← h1, ← clip_round_trip _ _ hN.ez_lo hN.ez_hi]
    pointwise [res_main_v143]
    rw [dif_pos (by omega)]
    rfl
  · pointwise [res_main_v143]
    rw [dif_neg (by omega)]
    rfl

/-- The depthwise accumulator. -/
theorem acc2 (hN : (net V0).Small) (k : Fin 576) : (res_main_v322 (F := Ideal) V0 : IVec S193x12x16x576 32) (ix4 b h w k)
    = (∑ t, (net V0).tap b h w k t) + (net V0).bD k := by
  rw [sum25]
  unfold Net.tap
  pointwise [res_main_v322, res_main_v284, res_main_v214, res_main_v142]
  simp only [padded V0 b hN, IntOp.addi, IntOp.muli, BitVec.zero_add, Nat.add_comm 1, Nat.add_comm 2, Nat.add_comm 3,
    Nat.add_comm 4]
  rfl

/-- The depthwise values. -/
theorem d_eq (hN : (net V0).Small) (k : Fin 576) : (res_main_v443 (F := Ideal) V0 : IVec S193x12x16x576 8) (ix4 b h w k)
    = ((net V0).d b h w k).setWidth 8 := by
  unfold Net.d
  rw [← acc2 V0 b h w hN, ← rs2]
  pointwise [res_main_v443]
  rfl

/-- The projection's accumulator. -/
theorem acc3 (hN : (net V0).Small) (j : Fin 96) : (res_main_v461 (F := Ideal) V0 : IVec S193x12x16x96 32) (ix4 b h w j)
    = (∑ k, ((net V0).d b h w k - (net V0).dz) * ((net V0).WP k j).signExtend 32) + (net V0).bP j := by
  have hd : ∀ k, (((res_main_v443 (F := Ideal) V0 : IVec S193x12x16x576 8) (ix4 b h w k)).signExtend 32) = (net V0).d b h w k := fun k => by
    rw [d_eq V0 b h w hN, Net.d, clip_round_trip _ _ hN.dz_lo hN.dz_hi]
  rw [sum_sub_mul]
  simp only [← hd]
  unfold res_main_v461
  clean_types
  pointwise
  simp only [fold_addi]
  rfl

/-- The projection's share of the residual sum, before its rescaling. -/
theorem acc5 (hN : (net V0).Small) (j : Fin 96) : (res_main_v694 (F := Ideal) V0 : IVec S193x12x16x96 32) (ix4 b h w j)
    = IntOp.muli ((net V0).p b h w j - (net V0).pz) 1048576#32 := by
  unfold Net.p
  rw [← acc3 V0 b h w hN, ← rs3, ← clip_round_trip _ _ (by decide) (by decide)]
  pointwise [res_main_v694]
  rfl

/-- The residual input's share of the residual sum, before its rescaling. -/
theorem acc4 (j : Fin 96) : (res_main_v587 (F := Ideal) V0 : IVec S193x12x16x96 32) (ix4 b h w j)
    = IntOp.muli (((net V0).X b h w j).signExtend 32 - (net V0).xz) 1048576#32 := by
  pointwise [res_main_v587]
  rfl

/-- The residual sum before its rescaling. -/
theorem acc6 (hN : (net V0).Small) (j : Fin 96) : (res_main_v797 (F := Ideal) V0 : IVec S193x12x16x96 32) (ix4 b h w j)
    = rs (IntOp.muli (((net V0).X b h w j).signExtend 32 - (net V0).xz) 1048576#32) ((net V0).rq 0) ((net V0).rq 1)
      + rs (IntOp.muli ((net V0).p b h w j - (net V0).pz) 1048576#32) ((net V0).rq 2) ((net V0).rq 3) := by
  rw [← acc4, ← acc5 V0 b h w hN, ← rs4, ← rs5]
  pointwise [res_main_v797]
  rfl

/-- The reference's first result, as its run reads it. -/
def resY : IVec S193x192x96 8 :=
  shapeCast _ (trunci 8 (minsi (broadcastInDim S193x12x16x96 ![] bcast_S_S193x12x16x96 (id (constantI S_ 32 127#32)))
    (maxsi (broadcastInDim S193x12x16x96 ![] bcast_S_S193x12x16x96 (id (constantI S_ 32 4294967168#32)))
      (addi (select (res_main_v803 (F := Ideal) V0) (negi (res_main_v897 (F := Ideal) V0)) (res_main_v897 (F := Ideal) V0))
        (broadcastInDim S193x12x16x96 ![] bcast_S_S193x12x16x96 (V0 (Proc.devRef .tc main_arg18)))))) natLt_8_32)
    shapeCasts_S193x12x16x96_S193x192x96

/-- The reference's second result, as its run reads it. -/
def resD : IVec S193x192x576 8 :=
  shapeCast _ (res_main_v443 (F := Ideal) V0 : IVec S193x12x16x576 8) shapeCasts_S193x12x16x576_S193x192x576

/-- The reference's first result is the residual sum. -/
theorem resY_eq (hN : (net V0).Small) : resY V0 = (net V0).arrY := by
  funext x
  idx_vars x
  rw [Net.arrY_ix3]
  unfold Net.y
  rw [← acc6 V0 _ _ _ hN, ← rs6]
  pointwise [resY]
  rfl

/-- The reference's second result is the depthwise convolution. -/
theorem resD_eq (hN : (net V0).Small) : resD V0 = (net V0).arrD := by
  funext x
  idx_vars x
  rw [Net.arrD_ix3, ← d_eq V0 _ _ _ hN]
  pointwise [resD]

end Cert.Proof.Ref

end
-- ==== Proof.Args.lean ====
/-
  What the claim supposes of the arguments, read as facts about the network: the two zero points are int8 values, and the two
  programs, started from the same arguments, speak of the same network.
-/
module

public import proofs.«01_k».proof.Defs
public import proofs.«01_k».proof.Proof.Host
public import proofs.«01_k».proof.Proof.RefRescale

@[expose] public section

noncomputable section

namespace Cert.Proof.Args

open Idealize.ShloMosaic Idealize.ShloMosaic.StableHlo Cert.Proof.Spec

/-- A conjunction of two truth values is true only if both are. -/
theorem and_one (a b : BitVec 1) (h : a &&& b = 1#1) : a = 1#1 ∧ b = 1#1 := by
  revert a b; decide

/-- A truth value that is one is true. -/
theorem ofBool_one (p : Bool) (h : BitVec.ofBool p = 1#1) : p = true := by
  revert p; decide

/-- The precondition says that both zero points are int8 values. -/
theorem small [Cert.Pre_int8_zero_points.Facts] (m : (ℓ : Loc Cert.KernelIdeal.nD Cert.KernelIdeal.τ Cert.KernelIdeal.sig) → Buf (Elt Ideal) ℓ)
    (hm : Cert.Pre_KernelIdeal_int8_zero_points m) (c : Dev Cert.KernelIdeal.nD) : (Host.net m c).Small := by
  have h := congrFun (hm c) ix0
  unfold Cert.Pre_int8_zero_points.fn at h
  obtain ⟨h, h4⟩ := and_one _ _ h
  obtain ⟨h, h3⟩ := and_one _ _ h
  obtain ⟨h1, h2⟩ := and_one _ _ h
  have h1 := BitVec.sle_iff_toInt_le.mp (ofBool_one _ h1)
  have h2 := BitVec.sle_iff_toInt_le.mp (ofBool_one _ h2)
  have h3 := BitVec.sle_iff_toInt_le.mp (ofBool_one _ h3)
  have h4 := BitVec.sle_iff_toInt_le.mp (ofBool_one _ h4)
  exact ⟨h1, h2, h3, h4⟩

/-- Equal arrays make equal networks. -/
theorem ofArrays_congr {a0 b0 a1 b1 a2 b2 a3 b3 a4 b4 a5 b5 a6 b6 a7 b7 a8 b8 a9 b9 a10 b10 a11 b11 a12 b12 a13 b13 a14 b14
    a15 b15 a16 b16 a17 b17 a18 b18} (h0 : a0 = b0) (h1 : a1 = b1) (h2 : a2 = b2) (h3 : a3 = b3) (h4 : a4 = b4) (h5 : a5 = b5)
    (h6 : a6 = b6) (h7 : a7 = b7) (h8 : a8 = b8) (h9 : a9 = b9) (h10 : a10 = b10) (h11 : a11 = b11) (h12 : a12 = b12)
    (h13 : a13 = b13) (h14 : a14 = b14) (h15 : a15 = b15) (h16 : a16 = b16) (h17 : a17 = b17) (h18 : a18 = b18) :
    Net.ofArrays a0 a1 a2 a3 a4 a5 a6 a7 a8 a9 a10 a11 a12 a13 a14 a15 a16 a17 a18
      = Net.ofArrays b0 b1 b2 b3 b4 b5 b6 b7 b8 b9 b10 b11 b12 b13 b14 b15 b16 b17 b18 := by
  subst h0 h1 h2 h3 h4 h5 h6 h7 h8 h9 h10 h11 h12 h13 h14 h15 h16 h17 h18; rfl

end Cert.Proof.Args

end
-- ==== Proof.lean ====
/-
  The proof of `Cert.Claim`: the frames of the three programs, and the equality of the kernel's two results with the reference's,
  each shown to be the arrays of one and the same network.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Final
public import proofs.«01_k».proof.Proof.RefValue
public import proofs.«01_k».proof.Proof.Args
public import Idealize.ShloMosaic.Adequacy
public import Idealize.ShloMosaic.Init

@[expose] public section

noncomputable section

namespace Cert.Proof

open Idealize.ShloMosaic Idealize.SL.Sem Idealize.ShloMosaic.StableHlo

/-- The reference's arguments end unchanged and no semaphore is left raised: it has none. -/
theorem reference_frame : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The kernel's and the reference's results are the arrays of the network of the shared arguments. -/
theorem results_equal : Cert.algebraic_KernelIdeal_ReferenceIdeal_pre_int8_zero_points (hKernelIdeal := Cert.KernelIdeal.Gen.facts)
    (hReferenceIdeal := Cert.ReferenceIdeal.Gen.facts) (hPre_int8_zero_points := {}) := by
  letI : Cert.Pre_int8_zero_points.Facts := {}
  intro m g m' g' hm hargs
  have hS := fun c => Args.small m hm c
  have hnet : ∀ c, Ref.net (launchContents m' c) = Host.net m c := fun c => by
    obtain ⟨h0, h1, h2, h3, h4, h5, h6, h7, h8, h9, h10, h11, h12, h13, h14, h15, h16, h17, h18⟩ := hargs c
    exact Args.ofArrays_congr h0 h1 h2 h3 h4 h5 h6 h7 h8 h9 h10 h11 h12 h13 h14 h15 h16 h17 h18
  refine ⟨fun c => (Host.net m c).arrY, fun c => (Host.net m c).arrD, ?_, ?_⟩
  · exact (θ_run Cert.KernelIdeal.defs _ _).mono
      (fun r h c => ⟨(h c).1.trans (Final.arr8 m c (hS c)), (h c).2.1.trans (Final.arr9 m c (hS c)), (h c).2.2⟩)
      (Cert.KernelIdeal.Value.run_blocks (F := Ideal) m g)
  · exact (θ_run Cert.ReferenceIdeal.defs _ _).mono
      (fun r h c => ⟨(h c).1.trans ((Ref.resY_eq _ (by rw [hnet]; exact hS c)).trans (congrArg Spec.Net.arrY (hnet c))),
        (h c).2.1.trans ((Ref.resD_eq _ (by rw [hnet]; exact hS c)).trans (congrArg Spec.Net.arrD (hnet c))), (h c).2.2⟩)
      (Cert.ReferenceIdeal.Value.run (F := Ideal) m' g')

/-- The claim. -/
theorem claim : Cert.Claim :=
  ⟨Cert.Kernel.Gen.facts, Cert.KernelIdeal.Gen.facts, Cert.ReferenceIdeal.Gen.facts, {},
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, results_equal⟩

end Cert.Proof

end
